-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_RefProjectionIdeal (m : (ℓ : Loc Cert.RefProjectionIdeal.nD Cert.RefProjectionIdeal.τ Cert.RefProjectionIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_finite_tokens [hPre_finite_tokens : Cert.Pre_finite_tokens.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_finite_tokens.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).1 = (fun _ => 1#1)
    ∧ (Cert.Pre_finite_tokens.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.1 = (fun _ => 1#1)
    ∧ (Cert.Pre_finite_tokens.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.2.1 = (fun _ => 1#1)
    ∧ (Cert.Pre_finite_tokens.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.2.2.1 = (fun _ => 1#1)
    ∧ (Cert.Pre_finite_tokens.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.2.2.2 = (fun _ => 1#1)

def Pre_RefScoresIdeal (m : (ℓ : Loc Cert.RefScoresIdeal.nD Cert.RefScoresIdeal.τ Cert.RefScoresIdeal.sig) → Buf (Elt Ideal) ℓ) : Prop :=
  True

def Pre_RefScoresIdeal_finite_tokens [hPre_finite_tokens : Cert.Pre_finite_tokens.Facts] (m : (ℓ : Loc Cert.RefScoresIdeal.nD Cert.RefScoresIdeal.τ Cert.RefScoresIdeal.sig) → Buf (Elt Ideal) ℓ) : Prop :=
  ∀ c : Dev Cert.RefScoresIdeal.nD,
    (Cert.Pre_finite_tokens.fn (F := Ideal) (m ((c.tc : Thread Cert.RefScoresIdeal.nD Cert.RefScoresIdeal.τ).loc Cert.RefScoresIdeal.main_arg0)) (m ((c.tc : Thread Cert.RefScoresIdeal.nD Cert.RefScoresIdeal.τ).loc Cert.RefScoresIdeal.main_arg1)) (m ((c.tc : Thread Cert.RefScoresIdeal.nD Cert.RefScoresIdeal.τ).loc Cert.RefScoresIdeal.main_arg2)) (m ((c.tc : Thread Cert.RefScoresIdeal.nD Cert.RefScoresIdeal.τ).loc Cert.RefScoresIdeal.main_arg3)) (m ((c.tc : Thread Cert.RefScoresIdeal.nD Cert.RefScoresIdeal.τ).loc Cert.RefScoresIdeal.main_arg4))).1 = (fun _ => 1#1)
    ∧ (Cert.Pre_finite_tokens.fn (F := Ideal) (m ((c.tc : Thread Cert.RefScoresIdeal.nD Cert.RefScoresIdeal.τ).loc Cert.RefScoresIdeal.main_arg0)) (m ((c.tc : Thread Cert.RefScoresIdeal.nD Cert.RefScoresIdeal.τ).loc Cert.RefScoresIdeal.main_arg1)) (m ((c.tc : Thread Cert.RefScoresIdeal.nD Cert.RefScoresIdeal.τ).loc Cert.RefScoresIdeal.main_arg2)) (m ((c.tc : Thread Cert.RefScoresIdeal.nD Cert.RefScoresIdeal.τ).loc Cert.RefScoresIdeal.main_arg3)) (m ((c.tc : Thread Cert.RefScoresIdeal.nD Cert.RefScoresIdeal.τ).loc Cert.RefScoresIdeal.main_arg4))).2.1 = (fun _ => 1#1)
    ∧ (Cert.Pre_finite_tokens.fn (F := Ideal) (m ((c.tc : Thread Cert.RefScoresIdeal.nD Cert.RefScoresIdeal.τ).loc Cert.RefScoresIdeal.main_arg0)) (m ((c.tc : Thread Cert.RefScoresIdeal.nD Cert.RefScoresIdeal.τ).loc Cert.RefScoresIdeal.main_arg1)) (m ((c.tc : Thread Cert.RefScoresIdeal.nD Cert.RefScoresIdeal.τ).loc Cert.RefScoresIdeal.main_arg2)) (m ((c.tc : Thread Cert.RefScoresIdeal.nD Cert.RefScoresIdeal.τ).loc Cert.RefScoresIdeal.main_arg3)) (m ((c.tc : Thread Cert.RefScoresIdeal.nD Cert.RefScoresIdeal.τ).loc Cert.RefScoresIdeal.main_arg4))).2.2.1 = (fun _ => 1#1)
    ∧ (Cert.Pre_finite_tokens.fn (F := Ideal) (m ((c.tc : Thread Cert.RefScoresIdeal.nD Cert.RefScoresIdeal.τ).loc Cert.RefScoresIdeal.main_arg0)) (m ((c.tc : Thread Cert.RefScoresIdeal.nD Cert.RefScoresIdeal.τ).loc Cert.RefScoresIdeal.main_arg1)) (m ((c.tc : Thread Cert.RefScoresIdeal.nD Cert.RefScoresIdeal.τ).loc Cert.RefScoresIdeal.main_arg2)) (m ((c.tc : Thread Cert.RefScoresIdeal.nD Cert.RefScoresIdeal.τ).loc Cert.RefScoresIdeal.main_arg3)) (m ((c.tc : Thread Cert.RefScoresIdeal.nD Cert.RefScoresIdeal.τ).loc Cert.RefScoresIdeal.main_arg4))).2.2.2.1 = (fun _ => 1#1)
    ∧ (Cert.Pre_finite_tokens.fn (F := Ideal) (m ((c.tc : Thread Cert.RefScoresIdeal.nD Cert.RefScoresIdeal.τ).loc Cert.RefScoresIdeal.main_arg0)) (m ((c.tc : Thread Cert.RefScoresIdeal.nD Cert.RefScoresIdeal.τ).loc Cert.RefScoresIdeal.main_arg1)) (m ((c.tc : Thread Cert.RefScoresIdeal.nD Cert.RefScoresIdeal.τ).loc Cert.RefScoresIdeal.main_arg2)) (m ((c.tc : Thread Cert.RefScoresIdeal.nD Cert.RefScoresIdeal.τ).loc Cert.RefScoresIdeal.main_arg3)) (m ((c.tc : Thread Cert.RefScoresIdeal.nD Cert.RefScoresIdeal.τ).loc Cert.RefScoresIdeal.main_arg4))).2.2.2.2 = (fun _ => 1#1)

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_RefShortConvIdeal (m : (ℓ : Loc Cert.RefShortConvIdeal.nD Cert.RefShortConvIdeal.τ Cert.RefShortConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_RefProjectionIdeal [hRefProjectionIdeal : Cert.RefProjectionIdeal.Facts] : Prop :=
  ∀ (m : (ℓ : Loc Cert.RefProjectionIdeal.nD Cert.RefProjectionIdeal.τ Cert.RefProjectionIdeal.sig) → Buf (Elt Ideal) ℓ) (g : Dev Cert.RefProjectionIdeal.nD → PrngReg), Pre_RefProjectionIdeal m →
    θ_run (Cert.RefProjectionIdeal.defs (F := Ideal)) (onTc (τ := Cert.RefProjectionIdeal.τ) (Cert.RefProjectionIdeal.main (F := Ideal))) ⟨m, fun _ => 0, g⟩ (fun r => (∀ c : Dev Cert.RefProjectionIdeal.nD,
      r.2.mem ((c.tc : Thread Cert.RefProjectionIdeal.nD Cert.RefProjectionIdeal.τ).loc Cert.RefProjectionIdeal.main_arg0) = m ((c.tc : Thread Cert.RefProjectionIdeal.nD Cert.RefProjectionIdeal.τ).loc Cert.RefProjectionIdeal.main_arg0)
      ∧ r.2.mem ((c.tc : Thread Cert.RefProjectionIdeal.nD Cert.RefProjectionIdeal.τ).loc Cert.RefProjectionIdeal.main_arg1) = m ((c.tc : Thread Cert.RefProjectionIdeal.nD Cert.RefProjectionIdeal.τ).loc Cert.RefProjectionIdeal.main_arg1)
      ∧ r.2.mem ((c.tc : Thread Cert.RefProjectionIdeal.nD Cert.RefProjectionIdeal.τ).loc Cert.RefProjectionIdeal.main_arg2) = m ((c.tc : Thread Cert.RefProjectionIdeal.nD Cert.RefProjectionIdeal.τ).loc Cert.RefProjectionIdeal.main_arg2)
      ∧ r.2.mem ((c.tc : Thread Cert.RefProjectionIdeal.nD Cert.RefProjectionIdeal.τ).loc Cert.RefProjectionIdeal.main_arg3) = m ((c.tc : Thread Cert.RefProjectionIdeal.nD Cert.RefProjectionIdeal.τ).loc Cert.RefProjectionIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresIdeal_pre_finite_tokens [hScoresIdeal : Cert.ScoresIdeal.Facts] [hPre_finite_tokens : Cert.Pre_finite_tokens.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_finite_tokens m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_RefScoresIdeal [hRefScoresIdeal : Cert.RefScoresIdeal.Facts] : Prop :=
  ∀ (m : (ℓ : Loc Cert.RefScoresIdeal.nD Cert.RefScoresIdeal.τ Cert.RefScoresIdeal.sig) → Buf (Elt Ideal) ℓ) (g : Dev Cert.RefScoresIdeal.nD → PrngReg), Pre_RefScoresIdeal m →
    θ_run (Cert.RefScoresIdeal.defs (F := Ideal)) (onTc (τ := Cert.RefScoresIdeal.τ) (Cert.RefScoresIdeal.main (F := Ideal))) ⟨m, fun _ => 0, g⟩ (fun r => (∀ c : Dev Cert.RefScoresIdeal.nD,
      r.2.mem ((c.tc : Thread Cert.RefScoresIdeal.nD Cert.RefScoresIdeal.τ).loc Cert.RefScoresIdeal.main_arg0) = m ((c.tc : Thread Cert.RefScoresIdeal.nD Cert.RefScoresIdeal.τ).loc Cert.RefScoresIdeal.main_arg0)
      ∧ r.2.mem ((c.tc : Thread Cert.RefScoresIdeal.nD Cert.RefScoresIdeal.τ).loc Cert.RefScoresIdeal.main_arg1) = m ((c.tc : Thread Cert.RefScoresIdeal.nD Cert.RefScoresIdeal.τ).loc Cert.RefScoresIdeal.main_arg1)
      ∧ r.2.mem ((c.tc : Thread Cert.RefScoresIdeal.nD Cert.RefScoresIdeal.τ).loc Cert.RefScoresIdeal.main_arg2) = m ((c.tc : Thread Cert.RefScoresIdeal.nD Cert.RefScoresIdeal.τ).loc Cert.RefScoresIdeal.main_arg2)
      ∧ r.2.mem ((c.tc : Thread Cert.RefScoresIdeal.nD Cert.RefScoresIdeal.τ).loc Cert.RefScoresIdeal.main_arg3) = m ((c.tc : Thread Cert.RefScoresIdeal.nD Cert.RefScoresIdeal.τ).loc Cert.RefScoresIdeal.main_arg3)
      ∧ r.2.mem ((c.tc : Thread Cert.RefScoresIdeal.nD Cert.RefScoresIdeal.τ).loc Cert.RefScoresIdeal.main_arg4) = m ((c.tc : Thread Cert.RefScoresIdeal.nD Cert.RefScoresIdeal.τ).loc Cert.RefScoresIdeal.main_arg4))
      ∧ r.2.sem = fun _ => 0)

def quiescent_RefScoresIdeal_pre_finite_tokens [hRefScoresIdeal : Cert.RefScoresIdeal.Facts] [hPre_finite_tokens : Cert.Pre_finite_tokens.Facts] : Prop :=
  ∀ (m : (ℓ : Loc Cert.RefScoresIdeal.nD Cert.RefScoresIdeal.τ Cert.RefScoresIdeal.sig) → Buf (Elt Ideal) ℓ) (g : Dev Cert.RefScoresIdeal.nD → PrngReg), Pre_RefScoresIdeal_finite_tokens m →
    θ_run (Cert.RefScoresIdeal.defs (F := Ideal)) (onTc (τ := Cert.RefScoresIdeal.τ) (Cert.RefScoresIdeal.main (F := Ideal))) ⟨m, fun _ => 0, g⟩ (fun r => (∀ c : Dev Cert.RefScoresIdeal.nD,
      r.2.mem ((c.tc : Thread Cert.RefScoresIdeal.nD Cert.RefScoresIdeal.τ).loc Cert.RefScoresIdeal.main_arg0) = m ((c.tc : Thread Cert.RefScoresIdeal.nD Cert.RefScoresIdeal.τ).loc Cert.RefScoresIdeal.main_arg0)
      ∧ r.2.mem ((c.tc : Thread Cert.RefScoresIdeal.nD Cert.RefScoresIdeal.τ).loc Cert.RefScoresIdeal.main_arg1) = m ((c.tc : Thread Cert.RefScoresIdeal.nD Cert.RefScoresIdeal.τ).loc Cert.RefScoresIdeal.main_arg1)
      ∧ r.2.mem ((c.tc : Thread Cert.RefScoresIdeal.nD Cert.RefScoresIdeal.τ).loc Cert.RefScoresIdeal.main_arg2) = m ((c.tc : Thread Cert.RefScoresIdeal.nD Cert.RefScoresIdeal.τ).loc Cert.RefScoresIdeal.main_arg2)
      ∧ r.2.mem ((c.tc : Thread Cert.RefScoresIdeal.nD Cert.RefScoresIdeal.τ).loc Cert.RefScoresIdeal.main_arg3) = m ((c.tc : Thread Cert.RefScoresIdeal.nD Cert.RefScoresIdeal.τ).loc Cert.RefScoresIdeal.main_arg3)
      ∧ r.2.mem ((c.tc : Thread Cert.RefScoresIdeal.nD Cert.RefScoresIdeal.τ).loc Cert.RefScoresIdeal.main_arg4) = m ((c.tc : Thread Cert.RefScoresIdeal.nD Cert.RefScoresIdeal.τ).loc Cert.RefScoresIdeal.main_arg4))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ r.2.sem = fun _ => 0)

def quiescent_RefShortConvIdeal [hRefShortConvIdeal : Cert.RefShortConvIdeal.Facts] : Prop :=
  ∀ (m : (ℓ : Loc Cert.RefShortConvIdeal.nD Cert.RefShortConvIdeal.τ Cert.RefShortConvIdeal.sig) → Buf (Elt Ideal) ℓ) (g : Dev Cert.RefShortConvIdeal.nD → PrngReg), Pre_RefShortConvIdeal m →
    θ_run (Cert.RefShortConvIdeal.defs (F := Ideal)) (onTc (τ := Cert.RefShortConvIdeal.τ) (Cert.RefShortConvIdeal.main (F := Ideal))) ⟨m, fun _ => 0, g⟩ (fun r => (∀ c : Dev Cert.RefShortConvIdeal.nD,
      r.2.mem ((c.tc : Thread Cert.RefShortConvIdeal.nD Cert.RefShortConvIdeal.τ).loc Cert.RefShortConvIdeal.main_arg0) = m ((c.tc : Thread Cert.RefShortConvIdeal.nD Cert.RefShortConvIdeal.τ).loc Cert.RefShortConvIdeal.main_arg0)
      ∧ r.2.mem ((c.tc : Thread Cert.RefShortConvIdeal.nD Cert.RefShortConvIdeal.τ).loc Cert.RefShortConvIdeal.main_arg1) = m ((c.tc : Thread Cert.RefShortConvIdeal.nD Cert.RefShortConvIdeal.τ).loc Cert.RefShortConvIdeal.main_arg1)
      ∧ r.2.mem ((c.tc : Thread Cert.RefShortConvIdeal.nD Cert.RefShortConvIdeal.τ).loc Cert.RefShortConvIdeal.main_arg2) = m ((c.tc : Thread Cert.RefShortConvIdeal.nD Cert.RefShortConvIdeal.τ).loc Cert.RefShortConvIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Projection_ProjectionIdeal : Prop :=
  True

def algebraic_ProjectionIdeal_RefProjectionIdeal [hProjectionIdeal : Cert.ProjectionIdeal.Facts] [hRefProjectionIdeal : Cert.RefProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.RefProjectionIdeal.nD Cert.RefProjectionIdeal.τ Cert.RefProjectionIdeal.sig) → Buf (Elt Ideal) ℓ) (g' : Dev Cert.RefProjectionIdeal.nD → PrngReg), Pre_ProjectionIdeal m →
    (∀ c : Dev Cert.ProjectionIdeal.nD,
      m' ((c.tc : Thread Cert.RefProjectionIdeal.nD Cert.RefProjectionIdeal.τ).loc Cert.RefProjectionIdeal.main_arg0) = m ((c.tc : Thread Cert.ProjectionIdeal.nD Cert.ProjectionIdeal.τ).loc Cert.ProjectionIdeal.main_arg0)
      ∧ m' ((c.tc : Thread Cert.RefProjectionIdeal.nD Cert.RefProjectionIdeal.τ).loc Cert.RefProjectionIdeal.main_arg1) = m ((c.tc : Thread Cert.ProjectionIdeal.nD Cert.ProjectionIdeal.τ).loc Cert.ProjectionIdeal.main_arg1)
      ∧ m' ((c.tc : Thread Cert.RefProjectionIdeal.nD Cert.RefProjectionIdeal.τ).loc Cert.RefProjectionIdeal.main_arg2) = m ((c.tc : Thread Cert.ProjectionIdeal.nD Cert.ProjectionIdeal.τ).loc Cert.ProjectionIdeal.main_arg2)
      ∧ m' ((c.tc : Thread Cert.RefProjectionIdeal.nD Cert.RefProjectionIdeal.τ).loc Cert.RefProjectionIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v8)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v8) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.RefProjectionIdeal.defs (F := Ideal)) (onTc (τ := Cert.RefProjectionIdeal.τ) (Cert.RefProjectionIdeal.main (F := Ideal))) ⟨m', fun _ => 0, g'⟩ (fun r => ∀ c : Dev Cert.RefProjectionIdeal.nD,
          r.2.mem ((c.tc : Thread Cert.RefProjectionIdeal.nD Cert.RefProjectionIdeal.τ).loc Cert.RefProjectionIdeal.main_v34) = v0 c
          ∧ r.2.mem ((c.tc : Thread Cert.RefProjectionIdeal.nD Cert.RefProjectionIdeal.τ).loc Cert.RefProjectionIdeal.main_arg0) = m' ((c.tc : Thread Cert.RefProjectionIdeal.nD Cert.RefProjectionIdeal.τ).loc Cert.RefProjectionIdeal.main_arg0)
          ∧ r.2.mem ((c.tc : Thread Cert.RefProjectionIdeal.nD Cert.RefProjectionIdeal.τ).loc Cert.RefProjectionIdeal.main_arg1) = m' ((c.tc : Thread Cert.RefProjectionIdeal.nD Cert.RefProjectionIdeal.τ).loc Cert.RefProjectionIdeal.main_arg1)
          ∧ r.2.mem ((c.tc : Thread Cert.RefProjectionIdeal.nD Cert.RefProjectionIdeal.τ).loc Cert.RefProjectionIdeal.main_arg2) = m' ((c.tc : Thread Cert.RefProjectionIdeal.nD Cert.RefProjectionIdeal.τ).loc Cert.RefProjectionIdeal.main_arg2)
          ∧ r.2.mem ((c.tc : Thread Cert.RefProjectionIdeal.nD Cert.RefProjectionIdeal.τ).loc Cert.RefProjectionIdeal.main_arg3) = m' ((c.tc : Thread Cert.RefProjectionIdeal.nD Cert.RefProjectionIdeal.τ).loc Cert.RefProjectionIdeal.main_arg3))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v33) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9))

def preserves_Scores_ScoresIdeal : Prop :=
  True

def algebraic_ScoresIdeal_RefScoresIdeal_pre_finite_tokens [hScoresIdeal : Cert.ScoresIdeal.Facts] [hRefScoresIdeal : Cert.RefScoresIdeal.Facts] [hPre_finite_tokens : Cert.Pre_finite_tokens.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.RefScoresIdeal.nD Cert.RefScoresIdeal.τ Cert.RefScoresIdeal.sig) → Buf (Elt Ideal) ℓ) (g' : Dev Cert.RefScoresIdeal.nD → PrngReg), Pre_ScoresIdeal_finite_tokens m →
    (∀ c : Dev Cert.ScoresIdeal.nD,
      m' ((c.tc : Thread Cert.RefScoresIdeal.nD Cert.RefScoresIdeal.τ).loc Cert.RefScoresIdeal.main_arg0) = m ((c.tc : Thread Cert.ScoresIdeal.nD Cert.ScoresIdeal.τ).loc Cert.ScoresIdeal.main_arg0)
      ∧ m' ((c.tc : Thread Cert.RefScoresIdeal.nD Cert.RefScoresIdeal.τ).loc Cert.RefScoresIdeal.main_arg1) = m ((c.tc : Thread Cert.ScoresIdeal.nD Cert.ScoresIdeal.τ).loc Cert.ScoresIdeal.main_arg1)
      ∧ m' ((c.tc : Thread Cert.RefScoresIdeal.nD Cert.RefScoresIdeal.τ).loc Cert.RefScoresIdeal.main_arg2) = m ((c.tc : Thread Cert.ScoresIdeal.nD Cert.ScoresIdeal.τ).loc Cert.ScoresIdeal.main_arg2)
      ∧ m' ((c.tc : Thread Cert.RefScoresIdeal.nD Cert.RefScoresIdeal.τ).loc Cert.RefScoresIdeal.main_arg3) = m ((c.tc : Thread Cert.ScoresIdeal.nD Cert.ScoresIdeal.τ).loc Cert.ScoresIdeal.main_arg3)
      ∧ m' ((c.tc : Thread Cert.RefScoresIdeal.nD Cert.RefScoresIdeal.τ).loc Cert.RefScoresIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v11_0)) (v1 : (c : Dev Cert.ScoresIdeal.nD) → Buf (Elt Ideal) ((c.tc : Thread Cert.ScoresIdeal.nD Cert.ScoresIdeal.τ).loc Cert.ScoresIdeal.main_v11_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v11_0) = v0 c
          ∧ r.2.mem ((c.tc : Thread Cert.ScoresIdeal.nD Cert.ScoresIdeal.τ).loc Cert.ScoresIdeal.main_v11_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.RefScoresIdeal.defs (F := Ideal)) (onTc (τ := Cert.RefScoresIdeal.τ) (Cert.RefScoresIdeal.main (F := Ideal))) ⟨m', fun _ => 0, g'⟩ (fun r => ∀ c : Dev Cert.RefScoresIdeal.nD,
          r.2.mem ((c.tc : Thread Cert.RefScoresIdeal.nD Cert.RefScoresIdeal.τ).loc Cert.RefScoresIdeal.main_v32) = v0 c
          ∧ r.2.mem ((c.tc : Thread Cert.RefScoresIdeal.nD Cert.RefScoresIdeal.τ).loc Cert.RefScoresIdeal.main_v34) = v1 c
          ∧ r.2.mem ((c.tc : Thread Cert.RefScoresIdeal.nD Cert.RefScoresIdeal.τ).loc Cert.RefScoresIdeal.main_arg0) = m' ((c.tc : Thread Cert.RefScoresIdeal.nD Cert.RefScoresIdeal.τ).loc Cert.RefScoresIdeal.main_arg0)
          ∧ r.2.mem ((c.tc : Thread Cert.RefScoresIdeal.nD Cert.RefScoresIdeal.τ).loc Cert.RefScoresIdeal.main_arg1) = m' ((c.tc : Thread Cert.RefScoresIdeal.nD Cert.RefScoresIdeal.τ).loc Cert.RefScoresIdeal.main_arg1)
          ∧ r.2.mem ((c.tc : Thread Cert.RefScoresIdeal.nD Cert.RefScoresIdeal.τ).loc Cert.RefScoresIdeal.main_arg2) = m' ((c.tc : Thread Cert.RefScoresIdeal.nD Cert.RefScoresIdeal.τ).loc Cert.RefScoresIdeal.main_arg2)
          ∧ r.2.mem ((c.tc : Thread Cert.RefScoresIdeal.nD Cert.RefScoresIdeal.τ).loc Cert.RefScoresIdeal.main_arg3) = m' ((c.tc : Thread Cert.RefScoresIdeal.nD Cert.RefScoresIdeal.τ).loc Cert.RefScoresIdeal.main_arg3)
          ∧ r.2.mem ((c.tc : Thread Cert.RefScoresIdeal.nD Cert.RefScoresIdeal.τ).loc Cert.RefScoresIdeal.main_arg4) = m' ((c.tc : Thread Cert.RefScoresIdeal.nD Cert.RefScoresIdeal.τ).loc Cert.RefScoresIdeal.main_arg4))

def preserves_ShortConv_ShortConvIdeal : Prop :=
  True

def algebraic_ShortConvIdeal_RefShortConvIdeal [hShortConvIdeal : Cert.ShortConvIdeal.Facts] [hRefShortConvIdeal : Cert.RefShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.RefShortConvIdeal.nD Cert.RefShortConvIdeal.τ Cert.RefShortConvIdeal.sig) → Buf (Elt Ideal) ℓ) (g' : Dev Cert.RefShortConvIdeal.nD → PrngReg), Pre_ShortConvIdeal m →
    (∀ c : Dev Cert.ShortConvIdeal.nD,
      m' ((c.tc : Thread Cert.RefShortConvIdeal.nD Cert.RefShortConvIdeal.τ).loc Cert.RefShortConvIdeal.main_arg0) = m ((c.tc : Thread Cert.ShortConvIdeal.nD Cert.ShortConvIdeal.τ).loc Cert.ShortConvIdeal.main_arg0)
      ∧ m' ((c.tc : Thread Cert.RefShortConvIdeal.nD Cert.RefShortConvIdeal.τ).loc Cert.RefShortConvIdeal.main_arg1) = m ((c.tc : Thread Cert.ShortConvIdeal.nD Cert.ShortConvIdeal.τ).loc Cert.ShortConvIdeal.main_arg1)
      ∧ m' ((c.tc : Thread Cert.RefShortConvIdeal.nD Cert.RefShortConvIdeal.τ).loc Cert.RefShortConvIdeal.main_arg2) = m ((c.tc : Thread Cert.ShortConvIdeal.nD Cert.ShortConvIdeal.τ).loc Cert.ShortConvIdeal.main_arg2)) →
    ∃ (v0 : (c : Dev Cert.ShortConvIdeal.nD) → Buf (Elt Ideal) ((c.tc : Thread Cert.ShortConvIdeal.nD Cert.ShortConvIdeal.τ).loc Cert.ShortConvIdeal.main_v5)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v5) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ θ_run (Cert.RefShortConvIdeal.defs (F := Ideal)) (onTc (τ := Cert.RefShortConvIdeal.τ) (Cert.RefShortConvIdeal.main (F := Ideal))) ⟨m', fun _ => 0, g'⟩ (fun r => ∀ c : Dev Cert.RefShortConvIdeal.nD,
          r.2.mem ((c.tc : Thread Cert.RefShortConvIdeal.nD Cert.RefShortConvIdeal.τ).loc Cert.RefShortConvIdeal.main_v36) = v0 c
          ∧ r.2.mem ((c.tc : Thread Cert.RefShortConvIdeal.nD Cert.RefShortConvIdeal.τ).loc Cert.RefShortConvIdeal.main_arg0) = m' ((c.tc : Thread Cert.RefShortConvIdeal.nD Cert.RefShortConvIdeal.τ).loc Cert.RefShortConvIdeal.main_arg0)
          ∧ r.2.mem ((c.tc : Thread Cert.RefShortConvIdeal.nD Cert.RefShortConvIdeal.τ).loc Cert.RefShortConvIdeal.main_arg1) = m' ((c.tc : Thread Cert.RefShortConvIdeal.nD Cert.RefShortConvIdeal.τ).loc Cert.RefShortConvIdeal.main_arg1)
          ∧ r.2.mem ((c.tc : Thread Cert.RefShortConvIdeal.nD Cert.RefShortConvIdeal.τ).loc Cert.RefShortConvIdeal.main_arg2) = m' ((c.tc : Thread Cert.RefShortConvIdeal.nD Cert.RefShortConvIdeal.τ).loc Cert.RefShortConvIdeal.main_arg2))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hRefProjectionIdeal : Cert.RefProjectionIdeal.Facts) (hMerge : Cert.Merge.Facts) (hMergeIdeal : Cert.MergeIdeal.Facts) (hRefMergeIdeal : Cert.RefMergeIdeal.Facts) (hScores : Cert.Scores.Facts) (hScoresIdeal : Cert.ScoresIdeal.Facts) (hRefScoresIdeal : Cert.RefScoresIdeal.Facts) (hShortConv : Cert.ShortConv.Facts) (hShortConvIdeal : Cert.ShortConvIdeal.Facts) (hRefShortConvIdeal : Cert.RefShortConvIdeal.Facts) (hPre_finite_inputs : Cert.Pre_finite_inputs.Facts) (hPre_finite_tokens : Cert.Pre_finite_tokens.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Projection (hProjection := hProjection)
    ∧ quiescent_ProjectionIdeal (hProjectionIdeal := hProjectionIdeal)
    ∧ quiescent_RefProjectionIdeal (hRefProjectionIdeal := hRefProjectionIdeal)
    ∧ quiescent_Merge (hMerge := hMerge)
    ∧ quiescent_MergeIdeal (hMergeIdeal := hMergeIdeal)
    ∧ quiescent_RefMergeIdeal (hRefMergeIdeal := hRefMergeIdeal)
    ∧ quiescent_Scores (hScores := hScores)
    ∧ quiescent_ScoresIdeal (hScoresIdeal := hScoresIdeal)
    ∧ quiescent_ScoresIdeal_pre_finite_tokens (hScoresIdeal := hScoresIdeal) (hPre_finite_tokens := hPre_finite_tokens)
    ∧ quiescent_RefScoresIdeal (hRefScoresIdeal := hRefScoresIdeal)
    ∧ quiescent_RefScoresIdeal_pre_finite_tokens (hRefScoresIdeal := hRefScoresIdeal) (hPre_finite_tokens := hPre_finite_tokens)
    ∧ quiescent_ShortConv (hShortConv := hShortConv)
    ∧ quiescent_ShortConvIdeal (hShortConvIdeal := hShortConvIdeal)
    ∧ quiescent_RefShortConvIdeal (hRefShortConvIdeal := hRefShortConvIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Projection_ProjectionIdeal
    ∧ algebraic_ProjectionIdeal_RefProjectionIdeal (hProjectionIdeal := hProjectionIdeal) (hRefProjectionIdeal := hRefProjectionIdeal)
    ∧ preserves_Merge_MergeIdeal
    ∧ algebraic_MergeIdeal_RefMergeIdeal (hMergeIdeal := hMergeIdeal) (hRefMergeIdeal := hRefMergeIdeal)
    ∧ preserves_Scores_ScoresIdeal
    ∧ algebraic_ScoresIdeal_RefScoresIdeal_pre_finite_tokens (hScoresIdeal := hScoresIdeal) (hRefScoresIdeal := hRefScoresIdeal) (hPre_finite_tokens := hPre_finite_tokens)
    ∧ preserves_ShortConv_ShortConvIdeal
    ∧ algebraic_ShortConvIdeal_RefShortConvIdeal (hShortConvIdeal := hShortConvIdeal) (hRefShortConvIdeal := hRefShortConvIdeal)
-- ==== Pre_finite_inputs.lean ====
abbrev S8x2048x5632 : Shape := ⟨3, ![8, 2048, 5632]⟩
abbrev S8x256x5632 : Shape := ⟨3, ![8, 256, 5632]⟩
abbrev S2x64 : Shape := ⟨2, ![2, 64]⟩
abbrev S4x64 : Shape := ⟨2, ![4, 64]⟩
abbrev S128 : Shape := ⟨1, ![128]⟩
abbrev S_ : Shape := ⟨0, ![]⟩

class Facts : Prop where
  bcast_S_S8x2048x5632 : S_.BroadcastsInDim S8x2048x5632 (![] : Fin 0 → Fin S8x2048x5632.rank)
  bcast_S_S8x256x5632 : S_.BroadcastsInDim S8x256x5632 (![] : Fin 0 → Fin S8x256x5632.rank)
  bcast_S_S2x64 : S_.BroadcastsInDim S2x64 (![] : Fin 0 → Fin S2x64.rank)
  bcast_S_S4x64 : S_.BroadcastsInDim S4x64 (![] : Fin 0 → Fin S4x64.rank)

variable [Facts]

def fn {F : FTy → Type} [FloatOps F] (main_arg0 : FVec F S8x2048x5632 .f32) (main_arg1 : FVec F S8x256x5632 .f32) (main_arg2 : FVec F S2x64 .f32) (main_arg3 : FVec F S2x64 .f32) (main_arg4 : FVec F S4x64 .f32) (main_arg5 : FVec F S128 .f32) : IVec S8x2048x5632 1 × IVec S8x256x5632 1 × IVec S2x64 1 × IVec S2x64 1 × IVec S4x64 1 :=
  let main_v0 : FVec F S8x2048x5632 .f32 := Host.absf main_arg0
  let main_cst : FVec F S_ .f32 := constant S_ .f32 0x7F800000#32
  let main_v1 : FVec F S8x2048x5632 .f32 := broadcastInDim S8x2048x5632 ![] bcast_S_S8x2048x5632 main_cst
  let main_v2 : IVec S8x2048x5632 1 := cmpf .olt main_v0 main_v1
  let main_v3 : FVec F S8x256x5632 .f32 := Host.absf main_arg1
  let main_cst_0 : FVec F S_ .f32 := constant S_ .f32 0x7F800000#32
  let main_v4 : FVec F S8x256x5632 .f32 := broadcastInDim S8x256x5632 ![] bcast_S_S8x256x5632 main_cst_0
  let main_v5 : IVec S8x256x5632 1 := cmpf .olt main_v3 main_v4
  let main_v6 : FVec F S2x64 .f32 := Host.absf main_arg2
  let main_cst_1 : FVec F S_ .f32 := constant S_ .f32 0x7F800000#32
  let main_v7 : FVec F S2x64 .f32 := broadcastInDim S2x64 ![] bcast_S_S2x64 main_cst_1
  let main_v8 : IVec S2x64 1 := cmpf .olt main_v6 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_v12 : FVec F S4x64 .f32 := Host.absf main_arg4
  let main_cst_3 : FVec F S_ .f32 := constant S_ .f32 0x7F800000#32
  let main_v13 : FVec F S4x64 .f32 := broadcastInDim S4x64 ![] bcast_S_S4x64 main_cst_3
  let main_v14 : IVec S4x64 1 := cmpf .olt main_v12 main_v13
  (main_v2, main_v5, main_v8, main_v11, main_v14)
-- ==== Pre_finite_tokens.lean ====
abbrev S8x2048x1024 : Shape := ⟨3, ![8, 2048, 1024]⟩
abbrev S1024 : Shape := ⟨1, ![1024]⟩
abbrev S8x6144 : Shape := ⟨2, ![8, 6144]⟩
abbrev S1024x2048 : Shape := ⟨2, ![1024, 2048]⟩
abbrev S8x2x128x128 : Shape := ⟨4, ![8, 2, 128, 128]⟩
abbrev S_ : Shape := ⟨0, ![]⟩

class Facts : Prop where
  bcast_S_S8x2048x1024 : S_.BroadcastsInDim S8x2048x1024 (![] : Fin 0 → Fin S8x2048x1024.rank)
  bcast_S_S1024 : S_.BroadcastsInDim S1024 (![] : Fin 0 → Fin S1024.rank)
  bcast_S_S8x6144 : S_.BroadcastsInDim S8x6144 (![] : Fin 0 → Fin S8x6144.rank)
  bcast_S_S1024x2048 : S_.BroadcastsInDim S1024x2048 (![] : Fin 0 → Fin S1024x2048.rank)
  bcast_S_S8x2x128x128 : S_.BroadcastsInDim S8x2x128x128 (![] : Fin 0 → Fin S8x2x128x128.rank)

variable [Facts]

def fn {F : FTy → Type} [FloatOps F] (main_arg0 : FVec F S8x2048x1024 .f32) (main_arg1 : FVec F S1024 .f32) (main_arg2 : FVec F S8x6144 .f32) (main_arg3 : FVec F S1024x2048 .f32) (main_arg4 : FVec F S8x2x128x128 .f32) : IVec S8x2048x1024 1 × IVec S1024 1 × IVec S8x6144 1 × IVec S1024x2048 1 × IVec S8x2x128x128 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8x6144 .f32 := Host.absf main_arg2
  let main_cst_1 : FVec F S_ .f32 := constant S_ .f32 0x7F800000#32
  let main_v7 : FVec F S8x6144 .f32 := broadcastInDim S8x6144 ![] bcast_S_S8x6144 main_cst_1
  let main_v8 : IVec S8x6144 1 := cmpf .olt main_v6 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S8x2x128x128 .f32 := Host.absf main_arg4
  let main_cst_3 : FVec F S_ .f32 := constant S_ .f32 0x7F800000#32
  let main_v13 : FVec F S8x2x128x128 .f32 := broadcastInDim S8x2x128x128 ![] bcast_S_S8x2x128x128 main_cst_3
  let main_v14 : IVec S8x2x128x128 1 := cmpf .olt main_v12 main_v13
  (main_v2, main_v5, main_v8, main_v11, main_v14)
-- ==== Kernel.lean ====
abbrev S8x2048x5632 : Shape := ⟨3, ![8, 2048, 5632]⟩
abbrev S8x256x5632 : Shape := ⟨3, ![8, 256, 5632]⟩
abbrev S2x64 : Shape := ⟨2, ![2, 64]⟩
abbrev S4x64 : Shape := ⟨2, ![4, 64]⟩
abbrev S128 : Shape := ⟨1, ![128]⟩
abbrev S8x2048x3072 : Shape := ⟨3, ![8, 2048, 3072]⟩
abbrev S8x2048x2560 : Shape := ⟨3, ![8, 2048, 2560]⟩
abbrev S8x256x3072 : Shape := ⟨3, ![8, 256, 3072]⟩
abbrev S8x256x2560 : Shape := ⟨3, ![8, 256, 2560]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S2048x2x1x16 : Shape := ⟨4, ![2048, 2, 1, 16]⟩
abbrev S2048x2x1x2x16 : Shape := ⟨5, ![2048, 2, 1, 2, 16]⟩
abbrev S2048x2x2x16 : Shape := ⟨4, ![2048, 2, 2, 16]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x128 : Shape := ⟨2, ![1, 128]⟩
abbrev S1x1x1x128 : Shape := ⟨4, ![1, 1, 1, 128]⟩
abbrev S1x1x4x128 : Shape := ⟨4, ![1, 1, 4, 128]⟩
abbrev S8x2048x512 : Shape := ⟨3, ![8, 2048, 512]⟩
abbrev S1x1024x512 : Shape := ⟨3, ![1, 1024, 512]⟩
abbrev S1024x512 : Shape := ⟨2, ![1024, 512]⟩
abbrev S8x256x512 : Shape := ⟨3, ![8, 256, 512]⟩
abbrev S1x256x512 : Shape := ⟨3, ![1, 256, 512]⟩
abbrev S256x512 : Shape := ⟨2, ![256, 512]⟩
abbrev S8x2304x512 : Shape := ⟨3, ![8, 2304, 512]⟩
abbrev S8x2304x1024 : Shape := ⟨3, ![8, 2304, 1024]⟩
abbrev S1x2048x512 : Shape := ⟨3, ![1, 2048, 512]⟩
abbrev S1x2304x512 : Shape := ⟨3, ![1, 2304, 512]⟩
abbrev S1x2304x1024 : Shape := ⟨3, ![1, 2304, 1024]⟩
abbrev S2048x128 : Shape := ⟨2, ![2048, 128]⟩
abbrev S1x2048x128 : Shape := ⟨3, ![1, 2048, 128]⟩
abbrev S256x128 : Shape := ⟨2, ![256, 128]⟩
abbrev S1x256x128 : Shape := ⟨3, ![1, 256, 128]⟩
abbrev S1x512x128 : Shape := ⟨3, ![1, 512, 128]⟩
abbrev S1x2304x128 : Shape := ⟨3, ![1, 2304, 128]⟩
abbrev S1x2304x256 : Shape := ⟨3, ![1, 2304, 256]⟩
abbrev S512x128 : Shape := ⟨2, ![512, 128]⟩
abbrev S1 : Shape := ⟨1, ![1]⟩
abbrev S1x1 : Shape := ⟨2, ![1, 1]⟩
abbrev S2304x128 : Shape := ⟨2, ![2304, 128]⟩
abbrev S512x2304 : Shape := ⟨2, ![512, 2304]⟩
abbrev S2304x256 : Shape := ⟨2, ![2304, 256]⟩
abbrev S512x256 : Shape := ⟨2, ![512, 256]⟩

abbrev nBuf : Space → Nat
  | .hbm => 105
  | .vmem => 48
  | .smem => 0
  | _ => 0

abbrev bufTy : (tb : Table) → Fin (tcTables nBuf tb) → BufTy
  | .hbm, ⟨0, _⟩ => ⟨S8x2048x5632, .f32⟩
  | .hbm, ⟨1, _⟩ => ⟨S8x256x5632, .f32⟩
  | .hbm, ⟨2, _⟩ => ⟨S2x64, .f32⟩
  | .hbm, ⟨3, _⟩ => ⟨S2x64, .f32⟩
  | .hbm, ⟨4, _⟩ => ⟨S4x64, .f32⟩
  | .hbm, ⟨5, _⟩ => ⟨S128, .f32⟩
  | .hbm, ⟨6, _⟩ => ⟨S8x2048x3072, .f32⟩
  | .hbm, ⟨7, _⟩ => ⟨S8x2048x2560, .f32⟩
  | .hbm, ⟨8, _⟩ => ⟨S8x2048x5632, .f32⟩
  | .hbm, ⟨9, _⟩ => ⟨S8x2048x5632, .bf16⟩
  | .hbm, ⟨10, _⟩ => ⟨S8x256x3072, .f32⟩
  | .hbm, ⟨11, _⟩ => ⟨S8x256x2560, .f32⟩
  | .hbm, ⟨12, _⟩ => ⟨S8x256x5632, .f32⟩
  | .hbm, ⟨13, _⟩ => ⟨S8x256x5632, .bf16⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S_, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S32, .i32⟩
  | .hbm, ⟨31, _⟩ => ⟨S32x64, .i32⟩
  | .hbm, ⟨32, _⟩ => ⟨S2048, .i32⟩
  | .hbm, ⟨33, _⟩ => ⟨S2048, .f32⟩
  | .hbm, ⟨34, _⟩ => ⟨S64, .i32⟩
  | .hbm, ⟨35, _⟩ => ⟨S1x64, .i32⟩
  | .hbm, ⟨36, _⟩ => ⟨S32x64, .i32⟩
  | .hbm, ⟨37, _⟩ => ⟨S2048, .i32⟩
  | .hbm, ⟨38, _⟩ => ⟨S2048, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S2048x1, .f32⟩
  | .hbm, ⟨54, _⟩ => ⟨S1x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x1, .f32⟩
  | .hbm, ⟨59, _⟩ => ⟨S1x16, .f32⟩
  | .hbm, ⟨60, _⟩ => ⟨S2048x16, .f32⟩
  | .hbm, ⟨61, _⟩ => ⟨S2048x16, .f32⟩
  | .hbm, ⟨62, _⟩ => ⟨S2048x16, .f32⟩
  | .hbm, ⟨63, _⟩ => ⟨S2048x1x16, .f32⟩
  | .hbm, ⟨64, _⟩ => ⟨S2048x1x16, .f32⟩
  | .hbm, ⟨65, _⟩ => ⟨S2048x2x16, .f32⟩
  | .hbm, ⟨66, _⟩ => ⟨S2048x2x16, .f32⟩
  | .hbm, ⟨67, _⟩ => ⟨S2048x2x1x16, .f32⟩
  | .hbm, ⟨68, _⟩ => ⟨S2048x2x1x2x16, .f32⟩
  | .hbm, ⟨69, _⟩ => ⟨S2048x2x2x16, .f32⟩
  | .hbm, ⟨70, _⟩ => ⟨S2048x2x16, .f32⟩
  | .hbm, ⟨71, _⟩ => ⟨S2048x2x16, .f32⟩
  | .hbm, ⟨72, _⟩ => ⟨S2048x2x1x16, .f32⟩
  | .hbm, ⟨73, _⟩ => ⟨S2048x2x1x16, .f32⟩
  | .hbm, ⟨74, _⟩ => ⟨S2048x2x2x16, .f32⟩
  | .hbm, ⟨75, _⟩ => ⟨S2048x64, .f32⟩
  | .hbm, ⟨76, _⟩ => ⟨S1x2048x1x64, .f32⟩
  | .hbm, ⟨77, _⟩ => ⟨S1x2048x8x64, .f32⟩
  | .hbm, ⟨78, _⟩ => ⟨S2048x512, .f32⟩
  | .hbm, ⟨79, _⟩ => ⟨S2048x64, .f32⟩
  | .hbm, ⟨80, _⟩ => ⟨S1x2048x1x64, .f32⟩
  | .hbm, ⟨81, _⟩ => ⟨S1x2048x8x64, .f32⟩
  | .hbm, ⟨82, _⟩ => ⟨S2048x512, .f32⟩
  | .hbm, ⟨83, _⟩ => ⟨S1x128, .f32⟩
  | .hbm, ⟨84, _⟩ => ⟨S1x1x1x128, .f32⟩
  | .hbm, ⟨85, _⟩ => ⟨S1x1x4x128, .f32⟩
  | .hbm, ⟨86, _⟩ => ⟨S1x512, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1x512, .f32⟩
  | .hbm, ⟨92, _⟩ => ⟨S1x512, .f32⟩
  | .hbm, ⟨93, _⟩ => ⟨S1x128, .f32⟩
  | .hbm, ⟨94, _⟩ => ⟨S1x1x1x128, .f32⟩
  | .hbm, ⟨95, _⟩ => ⟨S1x1x4x128, .f32⟩
  | .hbm, ⟨96, _⟩ => ⟨S1x512, .f32⟩
  | .hbm, ⟨97, _⟩ => ⟨S1x128, .f32⟩
  | .hbm, ⟨98, _⟩ => ⟨S8x2048x512, .bf16⟩
  | .hbm, ⟨99, _⟩ => ⟨S8x2048x512, .bf16⟩
  | .hbm, ⟨100, _⟩ => ⟨S8x256x512, .bf16⟩
  | .hbm, ⟨101, _⟩ => ⟨S8x256x512, .bf16⟩
  | .hbm, ⟨102, _⟩ => ⟨S8x2304x512, .bf16⟩
  | .hbm, ⟨103, _⟩ => ⟨S8x2304x1024, .bf16⟩
  | .hbm, ⟨104, _⟩ => ⟨S8x2048x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x512, .f32⟩
  | .local _ .vmem, ⟨20, _⟩ => ⟨S1x512, .f32⟩
  | .local _ .vmem, ⟨21, _⟩ => ⟨S512x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x2048x512, .bf16⟩
  | .local _ .vmem, ⟨27, _⟩ => ⟨S1x2048x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x2048x512, .bf16⟩
  | .local _ .vmem, ⟨31, _⟩ => ⟨S1x2048x512, .bf16⟩
  | .local _ .vmem, ⟨32, _⟩ => ⟨S1x256x512, .bf16⟩
  | .local _ .vmem, ⟨33, _⟩ => ⟨S1x256x512, .bf16⟩
  | .local _ .vmem, ⟨34, _⟩ => ⟨S1x2304x512, .bf16⟩
  | .local _ .vmem, ⟨35, _⟩ => ⟨S1x2304x512, .bf16⟩
  | .local _ .vmem, ⟨36, _⟩ => ⟨S1x2304x1024, .bf16⟩
  | .local _ .vmem, ⟨37, _⟩ => ⟨S1x2304x1024, .bf16⟩
  | .local _ .vmem, ⟨38, _⟩ => ⟨S1x512x128, .bf16⟩
  | .local _ .vmem, ⟨39, _⟩ => ⟨S1x512x128, .bf16⟩
  | .local _ .vmem, ⟨40, _⟩ => ⟨S1x2304x128, .bf16⟩
  | .local _ .vmem, ⟨41, _⟩ => ⟨S1x2304x128, .bf16⟩
  | .local _ .vmem, ⟨42, _⟩ => ⟨S1x2304x256, .bf16⟩
  | .local _ .vmem, ⟨43, _⟩ => ⟨S1x2304x256, .bf16⟩
  | .local _ .vmem, ⟨44, _⟩ => ⟨S4x64, .f32⟩
  | .local _ .vmem, ⟨45, _⟩ => ⟨S1x128, .f32⟩
  | .local _ .vmem, ⟨46, _⟩ => ⟨S1x512x128, .bf16⟩
  | .local _ .vmem, ⟨47, _⟩ => ⟨S1x512x128, .bf16⟩
  | _, _ => ⟨S8x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_5 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81_0 : Ref sig .tc := ⟨.hbm, 98, rfl⟩
abbrev main_v81_1 : Ref sig .tc := ⟨.hbm, 99, rfl⟩
abbrev main_v82_0 : Ref sig .tc := ⟨.hbm, 100, rfl⟩
abbrev main_v82_1 : Ref sig .tc := ⟨.hbm, 101, rfl⟩
abbrev main_v83_0 : Ref sig .tc := ⟨.hbm, 102, rfl⟩
abbrev main_v83_1 : Ref sig .tc := ⟨.hbm, 103, rfl⟩
abbrev main_v84 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc1_transform_1 (i : grid1.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c10_i32 : BitVec 32 := 10#32
  let c0_i32_0 : BitVec 32 := 0#32
  ![arg0.toNat, c0_i32.toNat, c10_i32.toNat]

def cc2_transform_3 (i : grid2.Coords) : Fin 3 → Nat :=
  let arg0 : BitVec 32 := BitVec.ofNat 32 (i 0).val
  let c0_i32 : BitVec 32 := 0#32
  let c10_i32 : BitVec 32 := 10#32
  let c0_i32_0 : BitVec 32 := 0#32
  ![arg0.toNat, c0_i32.toNat, c10_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x2304x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x2304x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨3, ![8, 4, 4], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2304x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2304x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 1 → Memref sig .tc .vmem S4x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 2 → Memref sig .tc .vmem S1x512x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]
-- ==== ReferenceIdeal.lean ====
abbrev S8x2048x5632 : Shape := ⟨3, ![8, 2048, 5632]⟩
abbrev S8x256x5632 : Shape := ⟨3, ![8, 256, 5632]⟩
abbrev S2x64 : Shape := ⟨2, ![2, 64]⟩
abbrev S4x64 : Shape := ⟨2, ![4, 64]⟩
abbrev S128 : Shape := ⟨1, ![128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S8x2048x768 : Shape := ⟨3, ![8, 2048, 768]⟩
abbrev S8x2048x256 : Shape := ⟨3, ![8, 2048, 256]⟩
abbrev S8x2048x512 : Shape := ⟨3, ![8, 2048, 512]⟩
abbrev S8x2048x3072 : Shape := ⟨3, ![8, 2048, 3072]⟩
abbrev S8x2048x4x2x64 : Shape := ⟨5, ![8, 2048, 4, 2, 64]⟩
abbrev S8x2048x4x128 : Shape := ⟨4, ![8, 2048, 4, 128]⟩
abbrev S8x256x768 : Shape := ⟨3, ![8, 256, 768]⟩
abbrev S8x256x256 : Shape := ⟨3, ![8, 256, 256]⟩
abbrev S8x256x512 : Shape := ⟨3, ![8, 256, 512]⟩
abbrev S8x256x3072 : Shape := ⟨3, ![8, 256, 3072]⟩
abbrev S8x256x4x2x64 : Shape := ⟨5, ![8, 256, 4, 2, 64]⟩
abbrev S8x256x4x128 : Shape := ⟨4, ![8, 256, 4, 128]⟩
abbrev S8x2048x4x2 : Shape := ⟨4, ![8, 2048, 4, 2]⟩
abbrev S8x2048x4x2x1 : Shape := ⟨5, ![8, 2048, 4, 2, 1]⟩
abbrev S1x1x1x2x64 : Shape := ⟨5, ![1, 1, 1, 2, 64]⟩
abbrev S8x2048x4x2x2x2x16 : Shape := ⟨7, ![8, 2048, 4, 2, 2, 2, 16]⟩
abbrev S8x2048x4x2x2x1x16 : Shape := ⟨7, ![8, 2048, 4, 2, 2, 1, 16]⟩
abbrev S8x2048x4x2x2x16 : Shape := ⟨6, ![8, 2048, 4, 2, 2, 16]⟩
abbrev S1x2048x1x1x2x16 : Shape := ⟨6, ![1, 2048, 1, 1, 2, 16]⟩
abbrev S8x256x4x2 : Shape := ⟨4, ![8, 256, 4, 2]⟩
abbrev S8x256x4x2x1 : Shape := ⟨5, ![8, 256, 4, 2, 1]⟩
abbrev S8x4x256x2x64 : Shape := ⟨5, ![8, 4, 256, 2, 64]⟩
abbrev S8x4x256x128 : Shape := ⟨4, ![8, 4, 256, 128]⟩
abbrev S8x4x2048x2x64 : Shape := ⟨5, ![8, 4, 2048, 2, 64]⟩
abbrev S8x4x2304x2x64 : Shape := ⟨5, ![8, 4, 2304, 2, 64]⟩
abbrev S8x4x2048x128 : Shape := ⟨4, ![8, 4, 2048, 128]⟩
abbrev S8x4x2304x128 : Shape := ⟨4, ![8, 4, 2304, 128]⟩
abbrev S8x4x2x2048x2304 : Shape := ⟨5, ![8, 4, 2, 2048, 2304]⟩
abbrev S8x4x2x2048 : Shape := ⟨4, ![8, 4, 2, 2048]⟩
abbrev S8x4x2x2048x1 : Shape := ⟨5, ![8, 4, 2, 2048, 1]⟩
abbrev S8x4x1x2048x2304 : Shape := ⟨5, ![8, 4, 1, 2048, 2304]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S1x1x1x128 : Shape := ⟨4, ![1, 1, 1, 128]⟩

abbrev nBuf : Space → Nat
  | .hbm => 226
  | .vmem => 0
  | .smem => 0
  | _ => 0

abbrev hbmTy0_0 (i : Nat) : BufTy := match i % 128 with
  | 0 => ⟨S8x2048x5632, .f32⟩
  | 1 => ⟨S8x256x5632, .f32⟩
  | 2 => ⟨S2x64, .f32⟩
  | 3 => ⟨S2x64, .f32⟩
  | 4 => ⟨S4x64, .f32⟩
  | 5 => ⟨S128, .f32⟩
  | 6 => ⟨S32, .i32⟩
  | 7 => ⟨S32x64, .i32⟩
  | 8 => ⟨S2048, .i32⟩
  | 9 => ⟨S2048, .f32⟩
  | 10 => ⟨S64, .i32⟩
  | 11 => ⟨S1x64, .i32⟩
  | 12 => ⟨S32x64, .i32⟩
  | 13 => ⟨S2048, .i32⟩
  | 14 => ⟨S2048, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x1, .f32⟩
  | 35 => ⟨S1x16, .f32⟩
  | 36 => ⟨S2048x16, .f32⟩
  | 37 => ⟨S2048x16, .f32⟩
  | 38 => ⟨S2048x16, .f32⟩
  | 39 => ⟨S2048x1x16, .f32⟩
  | 40 => ⟨S2048x1x16, .f32⟩
  | 41 => ⟨S2048x2x16, .f32⟩
  | 42 => ⟨S2048x2x16, .f32⟩
  | 43 => ⟨S2048x2x16, .f32⟩
  | 44 => ⟨S1x64, .f32⟩
  | 45 => ⟨S64, .f32⟩
  | 46 => ⟨S1x64, .f32⟩
  | 47 => ⟨S64, .f32⟩
  | 48 => ⟨S64, .f32⟩
  | 49 => ⟨S_, .f32⟩
  | 50 => ⟨S_, .f32⟩
  | 51 => ⟨S_, .f32⟩
  | 52 => ⟨S1x64, .f32⟩
  | 53 => ⟨S64, .f32⟩
  | 54 => ⟨S1x64, .f32⟩
  | 55 => ⟨S64, .f32⟩
  | 56 => ⟨S64, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S8x2048x768, .f32⟩
  | 64 => ⟨S8x2048x256, .f32⟩
  | 65 => ⟨S8x2048x512, .f32⟩
  | 66 => ⟨S8x2048x512, .f32⟩
  | 67 => ⟨S8x2048x512, .f32⟩
  | 68 => ⟨S8x2048x3072, .f32⟩
  | 69 => ⟨S8x2048x4x2x64, .f32⟩
  | 70 => ⟨S8x2048x4x2x64, .f32⟩
  | 71 => ⟨S8x2048x4x128, .f32⟩
  | 72 => ⟨S8x256x768, .f32⟩
  | 73 => ⟨S8x256x256, .f32⟩
  | 74 => ⟨S8x256x512, .f32⟩
  | 75 => ⟨S8x256x512, .f32⟩
  | 76 => ⟨S8x256x512, .f32⟩
  | 77 => ⟨S8x256x3072, .f32⟩
  | 78 => ⟨S8x256x4x2x64, .f32⟩
  | 79 => ⟨S8x256x4x2x64, .f32⟩
  | 80 => ⟨S8x256x4x128, .f32⟩
  | 81 => ⟨S8x2048x4x2x64, .f32⟩
  | 82 => ⟨S_, .f32⟩
  | 83 => ⟨S8x2048x4x2, .f32⟩
  | 84 => ⟨S8x2048x4x2x1, .f32⟩
  | 85 => ⟨S_, .f32⟩
  | 86 => ⟨S8x2048x4x2x1, .f32⟩
  | 87 => ⟨S8x2048x4x2x1, .f32⟩
  | 88 => ⟨S_, .f32⟩
  | 89 => ⟨S8x2048x4x2x1, .f32⟩
  | 90 => ⟨S8x2048x4x2x1, .f32⟩
  | 91 => ⟨S8x2048x4x2x1, .f32⟩
  | 92 => ⟨S8x2048x4x2x64, .f32⟩
  | 93 => ⟨S8x2048x4x2x64, .f32⟩
  | 94 => ⟨S1x1x1x2x64, .f32⟩
  | 95 => ⟨S8x2048x4x2x64, .f32⟩
  | 96 => ⟨S8x2048x4x2x64, .f32⟩
  | 97 => ⟨S8x2048x4x2x2x2x16, .f32⟩
  | 98 => ⟨S8x2048x4x2x2x1x16, .f32⟩
  | 99 => ⟨S8x2048x4x2x2x16, .f32⟩
  | 100 => ⟨S8x2048x4x2x2x1x16, .f32⟩
  | 101 => ⟨S8x2048x4x2x2x16, .f32⟩
  | 102 => ⟨S1x2048x1x1x2x16, .f32⟩
  | 103 => ⟨S1x2048x1x1x2x16, .f32⟩
  | 104 => ⟨S8x2048x4x2x2x16, .f32⟩
  | 105 => ⟨S8x2048x4x2x2x16, .f32⟩
  | 106 => ⟨S8x2048x4x2x2x16, .f32⟩
  | 107 => ⟨S8x2048x4x2x2x16, .f32⟩
  | 108 => ⟨S8x2048x4x2x2x16, .f32⟩
  | 109 => ⟨S8x2048x4x2x2x16, .f32⟩
  | 110 => ⟨S8x2048x4x2x2x16, .f32⟩
  | 111 => ⟨S8x2048x4x2x2x16, .f32⟩
  | 112 => ⟨S8x2048x4x2x2x16, .f32⟩
  | 113 => ⟨S8x2048x4x2x2x16, .f32⟩
  | 114 => ⟨S8x2048x4x2x2x1x16, .f32⟩
  | 115 => ⟨S8x2048x4x2x2x1x16, .f32⟩
  | 116 => ⟨S8x2048x4x2x2x2x16, .f32⟩
  | 117 => ⟨S8x2048x4x2x64, .f32⟩
  | 118 => ⟨S8x2048x4x2x64, .f32⟩
  | 119 => ⟨S_, .f32⟩
  | 120 => ⟨S8x2048x4x2, .f32⟩
  | 121 => ⟨S8x2048x4x2x1, .f32⟩
  | 122 => ⟨S_, .f32⟩
  | 123 => ⟨S8x2048x4x2x1, .f32⟩
  | 124 => ⟨S8x2048x4x2x1, .f32⟩
  | 125 => ⟨S_, .f32⟩
  | 126 => ⟨S8x2048x4x2x1, .f32⟩
  | 127 => ⟨S8x2048x4x2x1, .f32⟩
  | _ => ⟨S8x2048x5632, .f32⟩

abbrev hbmTy0_1 (i : Nat) : BufTy := match i % 128 with
  | 0 => ⟨S8x2048x4x2x1, .f32⟩
  | 1 => ⟨S8x2048x4x2x64, .f32⟩
  | 2 => ⟨S8x2048x4x2x64, .f32⟩
  | 3 => ⟨S1x1x1x2x64, .f32⟩
  | 4 => ⟨S8x2048x4x2x64, .f32⟩
  | 5 => ⟨S8x2048x4x2x64, .f32⟩
  | 6 => ⟨S8x2048x4x2x2x2x16, .f32⟩
  | 7 => ⟨S8x2048x4x2x2x1x16, .f32⟩
  | 8 => ⟨S8x2048x4x2x2x16, .f32⟩
  | 9 => ⟨S8x2048x4x2x2x1x16, .f32⟩
  | 10 => ⟨S8x2048x4x2x2x16, .f32⟩
  | 11 => ⟨S1x2048x1x1x2x16, .f32⟩
  | 12 => ⟨S1x2048x1x1x2x16, .f32⟩
  | 13 => ⟨S8x2048x4x2x2x16, .f32⟩
  | 14 => ⟨S8x2048x4x2x2x16, .f32⟩
  | 15 => ⟨S8x2048x4x2x2x16, .f32⟩
  | 16 => ⟨S8x2048x4x2x2x16, .f32⟩
  | 17 => ⟨S8x2048x4x2x2x16, .f32⟩
  | 18 => ⟨S8x2048x4x2x2x16, .f32⟩
  | 19 => ⟨S8x2048x4x2x2x16, .f32⟩
  | 20 => ⟨S8x2048x4x2x2x16, .f32⟩
  | 21 => ⟨S8x2048x4x2x2x16, .f32⟩
  | 22 => ⟨S8x2048x4x2x2x16, .f32⟩
  | 23 => ⟨S8x2048x4x2x2x1x16, .f32⟩
  | 24 => ⟨S8x2048x4x2x2x1x16, .f32⟩
  | 25 => ⟨S8x2048x4x2x2x2x16, .f32⟩
  | 26 => ⟨S8x2048x4x2x64, .f32⟩
  | 27 => ⟨S8x256x4x2x64, .f32⟩
  | 28 => ⟨S_, .f32⟩
  | 29 => ⟨S8x256x4x2, .f32⟩
  | 30 => ⟨S8x256x4x2x1, .f32⟩
  | 31 => ⟨S_, .f32⟩
  | 32 => ⟨S8x256x4x2x1, .f32⟩
  | 33 => ⟨S8x256x4x2x1, .f32⟩
  | 34 => ⟨S_, .f32⟩
  | 35 => ⟨S8x256x4x2x1, .f32⟩
  | 36 => ⟨S8x256x4x2x1, .f32⟩
  | 37 => ⟨S8x256x4x2x1, .f32⟩
  | 38 => ⟨S8x256x4x2x64, .f32⟩
  | 39 => ⟨S8x256x4x2x64, .f32⟩
  | 40 => ⟨S1x1x1x2x64, .f32⟩
  | 41 => ⟨S8x256x4x2x64, .f32⟩
  | 42 => ⟨S8x256x4x2x64, .f32⟩
  | 43 => ⟨S8x4x256x2x64, .f32⟩
  | 44 => ⟨S8x4x256x128, .f32⟩
  | 45 => ⟨S8x4x2048x2x64, .f32⟩
  | 46 => ⟨S8x4x2304x2x64, .f32⟩
  | 47 => ⟨S8x4x2048x128, .f32⟩
  | 48 => ⟨S8x4x2304x128, .f32⟩
  | 49 => ⟨S8x4x2048x2x64, .f32⟩
  | 50 => ⟨S8x4x2x2048x2304, .f32⟩
  | 51 => ⟨S_, .f32⟩
  | 52 => ⟨S8x4x2x2048x2304, .f32⟩
  | 53 => ⟨S8x4x2x2048x2304, .f32⟩
  | 54 => ⟨S_, .f32⟩
  | 55 => ⟨S8x4x2x2048, .f32⟩
  | 56 => ⟨S_, .f32⟩
  | 57 => ⟨S8x4x2x2048, .f32⟩
  | 58 => ⟨S8x4x2x2048, .f32⟩
  | 59 => ⟨S8x4x2x2048x1, .f32⟩
  | 60 => ⟨S8x4x2x2048x2304, .f32⟩
  | 61 => ⟨S8x4x2x2048x2304, .f32⟩
  | 62 => ⟨S8x4x2x2048x2304, .f32⟩
  | 63 => ⟨S_, .f32⟩
  | 64 => ⟨S8x4x2x2048, .f32⟩
  | 65 => ⟨S8x4x2x2048x1, .f32⟩
  | 66 => ⟨S8x4x2x2048x2304, .f32⟩
  | 67 => ⟨S8x4x2x2048x2304, .f32⟩
  | 68 => ⟨S8x4x1x2048x2304, .f32⟩
  | 69 => ⟨S8x4x2048x2304, .f32⟩
  | 70 => ⟨S8x4x1x2048x2304, .f32⟩
  | 71 => ⟨S8x4x2048x2304, .f32⟩
  | 72 => ⟨S8x4x2048x2304, .f32⟩
  | 73 => ⟨S8x4x2048x2304, .f32⟩
  | 74 => ⟨S8x4x2048x2304, .f32⟩
  | 75 => ⟨S8x4x2048x128, .f32⟩
  | 76 => ⟨S8x4x2048x128, .f32⟩
  | 77 => ⟨S_, .f32⟩
  | 78 => ⟨S8x4x2048, .f32⟩
  | 79 => ⟨S8x4x2048x1, .f32⟩
  | 80 => ⟨S_, .f32⟩
  | 81 => ⟨S8x4x2048x1, .f32⟩
  | 82 => ⟨S8x4x2048x1, .f32⟩
  | 83 => ⟨S_, .f32⟩
  | 84 => ⟨S8x4x2048x1, .f32⟩
  | 85 => ⟨S8x4x2048x1, .f32⟩
  | 86 => ⟨S8x4x2048x1, .f32⟩
  | 87 => ⟨S8x4x2048x128, .f32⟩
  | 88 => ⟨S8x4x2048x128, .f32⟩
  | 89 => ⟨S1x1x1x128, .f32⟩
  | 90 => ⟨S8x4x2048x128, .f32⟩
  | 91 => ⟨S8x4x2048x128, .f32⟩
  | 92 => ⟨S_, .f32⟩
  | 93 => ⟨S8x4x2048x128, .f32⟩
  | 94 => ⟨S8x4x2048x128, .f32⟩
  | 95 => ⟨S8x2048x4x128, .f32⟩
  | 96 => ⟨S8x2048x512, .f32⟩
  | 97 => ⟨S8x2048x512, .bf16⟩
  | _ => ⟨S8x2048x5632, .f32⟩

abbrev hbmTy (i : Nat) : BufTy := match i / 128 with
  | 0 => hbmTy0_0 i
  | 1 => hbmTy0_1 i
  | _ => ⟨S8x2048x5632, .f32⟩

abbrev bufTy : (tb : Table) → Fin (tcTables nBuf tb) → BufTy
  | .hbm, ⟨i, _⟩ => hbmTy i
  | _, _ => ⟨S8x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_6 : Ref sig .tc := ⟨.hbm, 82, rfl⟩
abbrev main_v69 : Ref sig .tc := ⟨.hbm, 83, rfl⟩
abbrev main_v70 : Ref sig .tc := ⟨.hbm, 84, rfl⟩
abbrev main_cst_7 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_9 : Ref sig .tc := ⟨.hbm, 119, rfl⟩
abbrev main_v103 : Ref sig .tc := ⟨.hbm, 120, rfl⟩
abbrev main_v104 : Ref sig .tc := ⟨.hbm, 121, rfl⟩
abbrev main_cst_10 : Ref sig .tc := ⟨.hbm, 122, rfl⟩
abbrev main_v105 : Ref sig .tc := ⟨.hbm, 123, rfl⟩
abbrev main_v106 : Ref sig .tc := ⟨.hbm, 124, rfl⟩
abbrev main_cst_11 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_cst_12 : Ref sig .tc := ⟨.hbm, 156, rfl⟩
abbrev main_v137 : Ref sig .tc := ⟨.hbm, 157, rfl⟩
abbrev main_v138 : Ref sig .tc := ⟨.hbm, 158, rfl⟩
abbrev main_cst_13 : Ref sig .tc := ⟨.hbm, 159, rfl⟩
abbrev main_v139 : Ref sig .tc := ⟨.hbm, 160, rfl⟩
abbrev main_v140 : Ref sig .tc := ⟨.hbm, 161, rfl⟩
abbrev main_cst_14 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_cst_15 : Ref sig .tc := ⟨.hbm, 179, rfl⟩
abbrev main_v157 : Ref sig .tc := ⟨.hbm, 180, rfl⟩
abbrev main_v158 : Ref sig .tc := ⟨.hbm, 181, rfl⟩
abbrev main_cst_16 : Ref sig .tc := ⟨.hbm, 182, rfl⟩
abbrev main_v159 : Ref sig .tc := ⟨.hbm, 183, rfl⟩
abbrev main_cst_17 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_cst_18 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_cst_19 : Ref sig .tc := ⟨.hbm, 205, rfl⟩
abbrev main_v179 : Ref sig .tc := ⟨.hbm, 206, rfl⟩
abbrev main_v180 : Ref sig .tc := ⟨.hbm, 207, rfl⟩
abbrev main_cst_20 : Ref sig .tc := ⟨.hbm, 208, rfl⟩
abbrev main_v181 : Ref sig .tc := ⟨.hbm, 209, rfl⟩
abbrev main_v182 : Ref sig .tc := ⟨.hbm, 210, rfl⟩
abbrev main_cst_21 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_cst_22 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩

abbrev nD : Nat := 1
abbrev τ : Topo := Topo.v7x

variable {F : FTy → Type} [FloatOps F]
-- ==== Projection.lean ====
abbrev S8x2048x1024 : Shape := ⟨3, ![8, 2048, 1024]⟩
abbrev S1024 : Shape := ⟨1, ![1024]⟩
abbrev S8x6144 : Shape := ⟨2, ![8, 6144]⟩
abbrev S1024x5632 : Shape := ⟨2, ![1024, 5632]⟩
abbrev S1x1024 : Shape := ⟨2, ![1, 1024]⟩
abbrev S_ : Shape := ⟨0, ![]⟩
abbrev S16x6144 : Shape := ⟨2, ![16, 6144]⟩
abbrev S1x16x6x1x1024 : Shape := ⟨5, ![1, 16, 6, 1, 1024]⟩
abbrev S1024x3072 : Shape := ⟨2, ![1024, 3072]⟩
abbrev S1024x2560 : Shape := ⟨2, ![1024, 2560]⟩
abbrev S8x2048x5632 : Shape := ⟨3, ![8, 2048, 5632]⟩
abbrev S1x1024x1024 : Shape := ⟨3, ![1, 1024, 1024]⟩
abbrev S1x1x1x1x1024 : Shape := ⟨5, ![1, 1, 1, 1, 1024]⟩
abbrev S1024x2816 : Shape := ⟨2, ![1024, 2816]⟩
abbrev S1x1024x2816 : Shape := ⟨3, ![1, 1024, 2816]⟩
abbrev S1024x1024 : Shape := ⟨2, ![1024, 1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x5632, .f32⟩
  | .hbm, ⟨4, _⟩ => ⟨S1x1024, .f32⟩
  | .hbm, ⟨5, _⟩ => ⟨S_, .f32⟩
  | .hbm, ⟨6, _⟩ => ⟨S8x6144, .f32⟩
  | .hbm, ⟨7, _⟩ => ⟨S16x6144, .f32⟩
  | .hbm, ⟨8, _⟩ => ⟨S1x16x6x1x1024, .f32⟩
  | .hbm, ⟨9, _⟩ => ⟨S1024x3072, .f32⟩
  | .hbm, ⟨10, _⟩ => ⟨S1024x2560, .f32⟩
  | .hbm, ⟨11, _⟩ => ⟨S1024x5632, .f32⟩
  | .hbm, ⟨12, _⟩ => ⟨S1024x5632, .bf16⟩
  | .hbm, ⟨13, _⟩ => ⟨S8x2048x5632, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1024x2816, .bf16⟩
  | .local _ .vmem, ⟨8, _⟩ => ⟨S1024x2816, .bf16⟩
  | .local _ .vmem, ⟨9, _⟩ => ⟨S1x1024x2816, .bf16⟩
  | .local _ .vmem, ⟨10, _⟩ => ⟨S1x1024x2816, .bf16⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, arg1.toNat, v0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== RefProjectionIdeal.lean ====
abbrev S8x2048x1024 : Shape := ⟨3, ![8, 2048, 1024]⟩
abbrev S1024 : Shape := ⟨1, ![1024]⟩
abbrev S8x6144 : Shape := ⟨2, ![8, 6144]⟩
abbrev S1024x5632 : Shape := ⟨2, ![1024, 5632]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x768 : Shape := ⟨3, ![8, 2048, 768]⟩
abbrev S8x2048x256 : Shape := ⟨3, ![8, 2048, 256]⟩
abbrev S8x2048x512 : Shape := ⟨3, ![8, 2048, 512]⟩
abbrev S8x2048x3072 : Shape := ⟨3, ![8, 2048, 3072]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x5632, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x5632, .f32⟩
  | .hbm, ⟨35, _⟩ => ⟨S8x2048x768, .f32⟩
  | .hbm, ⟨36, _⟩ => ⟨S8x2048x256, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x3072, .f32⟩
  | .hbm, ⟨41, _⟩ => ⟨S8x2048x5632, .f32⟩
  | .hbm, ⟨42, _⟩ => ⟨S8x2048x5632, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Merge.lean ====
abbrev S8x2048x256 : Shape := ⟨3, ![8, 2048, 256]⟩
abbrev S8x2048x512 : Shape := ⟨3, ![8, 2048, 512]⟩
abbrev S8x2048x5632 : Shape := ⟨3, ![8, 2048, 5632]⟩
abbrev S8x2048x1024 : Shape := ⟨3, ![8, 2048, 1024]⟩
abbrev S8x6144 : Shape := ⟨2, ![8, 6144]⟩
abbrev S256x1024 : Shape := ⟨2, ![256, 1024]⟩
abbrev S512x1024 : Shape := ⟨2, ![512, 1024]⟩
abbrev S1024x1024 : Shape := ⟨2, ![1024, 1024]⟩
abbrev S8x2048x3072 : Shape := ⟨3, ![8, 2048, 3072]⟩
abbrev S8x2048x2560 : Shape := ⟨3, ![8, 2048, 2560]⟩
abbrev S_ : Shape := ⟨0, ![]⟩
abbrev S16x6144 : Shape := ⟨2, ![16, 6144]⟩
abbrev S1x16x6x1x1024 : Shape := ⟨5, ![1, 16, 6, 1, 1024]⟩
abbrev S1x1024x256 : Shape := ⟨3, ![1, 1024, 256]⟩
abbrev S1x1024x512 : Shape := ⟨3, ![1, 1024, 512]⟩
abbrev S1x1024x3072 : Shape := ⟨3, ![1, 1024, 3072]⟩
abbrev S1x1024x1024 : Shape := ⟨3, ![1, 1024, 1024]⟩
abbrev S1x1x1x1x1024 : Shape := ⟨5, ![1, 1, 1, 1, 1024]⟩
abbrev S1024x3072 : Shape := ⟨2, ![1024, 3072]⟩
abbrev S1024x256 : Shape := ⟨2, ![1024, 256]⟩
abbrev S1024x512 : Shape := ⟨2, ![1024, 512]⟩
abbrev S1x1024 : Shape := ⟨2, ![1, 1024]⟩

abbrev nBuf : Space → Nat
  | .hbm => 26
  | .vmem => 18
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x512, .f32⟩
  | .hbm, ⟨3, _⟩ => ⟨S8x2048x5632, .f32⟩
  | .hbm, ⟨4, _⟩ => ⟨S8x2048x1024, .f32⟩
  | .hbm, ⟨5, _⟩ => ⟨S8x6144, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S256x1024, .bf16⟩
  | .hbm, ⟨11, _⟩ => ⟨S256x1024, .bf16⟩
  | .hbm, ⟨12, _⟩ => ⟨S512x1024, .bf16⟩
  | .hbm, ⟨13, _⟩ => ⟨S1024x1024, .bf16⟩
  | .hbm, ⟨14, _⟩ => ⟨S8x2048x256, .bf16⟩
  | .hbm, ⟨15, _⟩ => ⟨S8x2048x256, .bf16⟩
  | .hbm, ⟨16, _⟩ => ⟨S8x2048x512, .bf16⟩
  | .hbm, ⟨17, _⟩ => ⟨S8x2048x3072, .f32⟩
  | .hbm, ⟨18, _⟩ => ⟨S8x2048x2560, .f32⟩
  | .hbm, ⟨19, _⟩ => ⟨S8x2048x5632, .f32⟩
  | .hbm, ⟨20, _⟩ => ⟨S8x2048x5632, .bf16⟩
  | .hbm, ⟨21, _⟩ => ⟨S_, .f32⟩
  | .hbm, ⟨22, _⟩ => ⟨S8x6144, .f32⟩
  | .hbm, ⟨23, _⟩ => ⟨S16x6144, .f32⟩
  | .hbm, ⟨24, _⟩ => ⟨S1x16x6x1x1024, .f32⟩
  | .hbm, ⟨25, _⟩ => ⟨S8x2048x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x3072, .bf16⟩
  | .local _ .vmem, ⟨7, _⟩ => ⟨S1x1024x3072, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024x1024, .f32⟩
  | .local _ .vmem, ⟨17, _⟩ => ⟨S1x1024x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, arg0.toNat, c2_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefMergeIdeal.lean ====
abbrev S8x2048x256 : Shape := ⟨3, ![8, 2048, 256]⟩
abbrev S8x2048x512 : Shape := ⟨3, ![8, 2048, 512]⟩
abbrev S8x2048x5632 : Shape := ⟨3, ![8, 2048, 5632]⟩
abbrev S8x2048x1024 : Shape := ⟨3, ![8, 2048, 1024]⟩
abbrev S8x6144 : Shape := ⟨2, ![8, 6144]⟩
abbrev S256x1024 : Shape := ⟨2, ![256, 1024]⟩
abbrev S512x1024 : Shape := ⟨2, ![512, 1024]⟩
abbrev S1024x1024 : Shape := ⟨2, ![1024, 1024]⟩
abbrev S8x1x6144 : Shape := ⟨3, ![8, 1, 6144]⟩
abbrev S8x1x1024 : Shape := ⟨3, ![8, 1, 1024]⟩
abbrev S8x2048x768 : Shape := ⟨3, ![8, 2048, 768]⟩
abbrev S8x2048x3072 : Shape := ⟨3, ![8, 2048, 3072]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x512, .f32⟩
  | .hbm, ⟨3, _⟩ => ⟨S8x2048x5632, .f32⟩
  | .hbm, ⟨4, _⟩ => ⟨S8x2048x1024, .f32⟩
  | .hbm, ⟨5, _⟩ => ⟨S8x6144, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x768, .f32⟩
  | .hbm, ⟨18, _⟩ => ⟨S8x2048x256, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S8x2048x3072, .f32⟩
  | .hbm, ⟨23, _⟩ => ⟨S8x2048x3072, .f32⟩
  | .hbm, ⟨24, _⟩ => ⟨S8x2048x3072, .f32⟩
  | .hbm, ⟨25, _⟩ => ⟨S_, .f32⟩
  | .hbm, ⟨26, _⟩ => ⟨S8x2048x3072, .f32⟩
  | .hbm, ⟨27, _⟩ => ⟨S8x2048x3072, .f32⟩
  | .hbm, ⟨28, _⟩ => ⟨S_, .f32⟩
  | .hbm, ⟨29, _⟩ => ⟨S8x2048x3072, .f32⟩
  | .hbm, ⟨30, _⟩ => ⟨S8x2048x3072, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Scores.lean ====
abbrev S8x2048x1024 : Shape := ⟨3, ![8, 2048, 1024]⟩
abbrev S1024 : Shape := ⟨1, ![1024]⟩
abbrev S8x6144 : Shape := ⟨2, ![8, 6144]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S_ : Shape := ⟨0, ![]⟩
abbrev S16x6144 : Shape := ⟨2, ![16, 6144]⟩
abbrev S1x16x6x1x1024 : Shape := ⟨5, ![1, 16, 6, 1, 1024]⟩
abbrev S16x128x16384 : Shape := ⟨3, ![16, 128, 16384]⟩
abbrev S1024x16384 : Shape := ⟨2, ![1024, 16384]⟩
abbrev S1x512x1024 : Shape := ⟨3, ![1, 512, 1024]⟩
abbrev S1x1x1x1x1024 : Shape := ⟨5, ![1, 1, 1, 1, 1024]⟩
abbrev S16x128x512 : Shape := ⟨3, ![16, 128, 512]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 19
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x2048, .f32⟩
  | .hbm, ⟨4, _⟩ => ⟨S8x2x128x128, .f32⟩
  | .hbm, ⟨5, _⟩ => ⟨S16x128x128, .f32⟩
  | .hbm, ⟨6, _⟩ => ⟨S16x128x128, .f32⟩
  | .hbm, ⟨7, _⟩ => ⟨S16x128x128, .bf16⟩
  | .hbm, ⟨8, _⟩ => ⟨S16x128x128, .f32⟩
  | .hbm, ⟨9, _⟩ => ⟨S16x128x128, .f32⟩
  | .hbm, ⟨10, _⟩ => ⟨S16x128x128, .bf16⟩
  | .hbm, ⟨11, _⟩ => ⟨S1x1024, .f32⟩
  | .hbm, ⟨12, _⟩ => ⟨S_, .f32⟩
  | .hbm, ⟨13, _⟩ => ⟨S8x6144, .f32⟩
  | .hbm, ⟨14, _⟩ => ⟨S16x6144, .f32⟩
  | .hbm, ⟨15, _⟩ => ⟨S1x16x6x1x1024, .f32⟩
  | .hbm, ⟨16, _⟩ => ⟨S1024x2048, .bf16⟩
  | .hbm, ⟨17, _⟩ => ⟨S16x128x16384, .f32⟩
  | .hbm, ⟨18, _⟩ => ⟨S1024x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1024x2048, .bf16⟩
  | .local _ .vmem, ⟨8, _⟩ => ⟨S16x128x128, .bf16⟩
  | .local _ .vmem, ⟨9, _⟩ => ⟨S16x128x128, .bf16⟩
  | .local _ .vmem, ⟨10, _⟩ => ⟨S16x128x512, .f32⟩
  | .local _ .vmem, ⟨11, _⟩ => ⟨S16x128x512, .f32⟩
  | .local _ .vmem, ⟨12, _⟩ => ⟨S1024x512, .bf16⟩
  | .local _ .vmem, ⟨13, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, arg0.toNat, c3_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, arg0.toNat, c4_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefScoresIdeal.lean ====
abbrev S8x2048x1024 : Shape := ⟨3, ![8, 2048, 1024]⟩
abbrev S1024 : Shape := ⟨1, ![1024]⟩
abbrev S8x6144 : Shape := ⟨2, ![8, 6144]⟩
abbrev S1024x2048 : Shape := ⟨2, ![1024, 2048]⟩
abbrev S8x2x128x128 : Shape := ⟨4, ![8, 2, 128, 128]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16x128x16384 : Shape := ⟨3, ![16, 128, 16384]⟩
abbrev S1024x16384 : Shape := ⟨2, ![1024, 16384]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x2048, .f32⟩
  | .hbm, ⟨4, _⟩ => ⟨S8x2x128x128, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S16384x1024, .f32⟩
  | .hbm, ⟨36, _⟩ => ⟨S16384x2048, .f32⟩
  | .hbm, ⟨37, _⟩ => ⟨S16384x8x2x128, .f32⟩
  | .hbm, ⟨38, _⟩ => ⟨S8x2x128x16384, .f32⟩
  | .hbm, ⟨39, _⟩ => ⟨S16384x8x2x128, .f32⟩
  | .hbm, ⟨40, _⟩ => ⟨S8x2x128x16384, .f32⟩
  | .hbm, ⟨41, _⟩ => ⟨S16x128x16384, .f32⟩
  | .hbm, ⟨42, _⟩ => ⟨S1024x16384, .f32⟩
  | .hbm, ⟨43, _⟩ => ⟨S1024x16384, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== ShortConv.lean ====
abbrev S8x2048x5632 : Shape := ⟨3, ![8, 2048, 5632]⟩
abbrev S3x768 : Shape := ⟨2, ![3, 768]⟩
abbrev S768 : Shape := ⟨1, ![768]⟩
abbrev S8x2048x3072 : Shape := ⟨3, ![8, 2048, 3072]⟩
abbrev S8x2048x2560 : Shape := ⟨3, ![8, 2048, 2560]⟩
abbrev S1x768 : Shape := ⟨2, ![1, 768]⟩
abbrev S8x3x2048x256 : Shape := ⟨4, ![8, 3, 2048, 256]⟩
abbrev S1x2048x256 : Shape := ⟨3, ![1, 2048, 256]⟩
abbrev S3x256 : Shape := ⟨2, ![3, 256]⟩
abbrev S1x256 : Shape := ⟨2, ![1, 256]⟩
abbrev S1x1x2048x256 : Shape := ⟨4, ![1, 1, 2048, 256]⟩
abbrev S2048x256 : Shape := ⟨2, ![2048, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x5632, .f32⟩
  | .hbm, ⟨1, _⟩ => ⟨S3x768, .f32⟩
  | .hbm, ⟨2, _⟩ => ⟨S768, .f32⟩
  | .hbm, ⟨3, _⟩ => ⟨S8x2048x3072, .f32⟩
  | .hbm, ⟨4, _⟩ => ⟨S8x2048x2560, .f32⟩
  | .hbm, ⟨5, _⟩ => ⟨S8x2048x5632, .f32⟩
  | .hbm, ⟨6, _⟩ => ⟨S8x2048x5632, .bf16⟩
  | .hbm, ⟨7, _⟩ => ⟨S1x768, .f32⟩
  | .hbm, ⟨8, _⟩ => ⟨S8x3x2048x256, .f32⟩
  | .local _ .vmem, ⟨0, _⟩ => ⟨S1x2048x256, .bf16⟩
  | .local _ .vmem, ⟨1, _⟩ => ⟨S1x2048x256, .bf16⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x1x2048x256, .f32⟩
  | .local _ .vmem, ⟨7, _⟩ => ⟨S1x1x2048x256, .f32⟩
  | _, _ => ⟨S8x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefShortConvIdeal.lean ====
abbrev S8x2048x5632 : Shape := ⟨3, ![8, 2048, 5632]⟩
abbrev S3x768 : Shape := ⟨2, ![3, 768]⟩
abbrev S768 : Shape := ⟨1, ![768]⟩
abbrev S8x2048x768 : Shape := ⟨3, ![8, 2048, 768]⟩
abbrev S8x2048x256 : Shape := ⟨3, ![8, 2048, 256]⟩
abbrev S8x2048x512 : Shape := ⟨3, ![8, 2048, 512]⟩
abbrev S8x2048x3072 : Shape := ⟨3, ![8, 2048, 3072]⟩
abbrev S_ : Shape := ⟨0, ![]⟩
abbrev S8x2050x768 : Shape := ⟨3, ![8, 2050, 768]⟩
abbrev S1x768 : Shape := ⟨2, ![1, 768]⟩
abbrev S1x1x768 : Shape := ⟨3, ![1, 1, 768]⟩
abbrev S8x1x2048x256 : Shape := ⟨4, ![8, 1, 2048, 256]⟩
abbrev S8x3x2048x256 : Shape := ⟨4, ![8, 3, 2048, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x5632, .f32⟩
  | .hbm, ⟨1, _⟩ => ⟨S3x768, .f32⟩
  | .hbm, ⟨2, _⟩ => ⟨S768, .f32⟩
  | .hbm, ⟨3, _⟩ => ⟨S8x2048x768, .f32⟩
  | .hbm, ⟨4, _⟩ => ⟨S8x2048x256, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S8x2048x3072, .f32⟩
  | .hbm, ⟨9, _⟩ => ⟨S_, .i32⟩
  | .hbm, ⟨10, _⟩ => ⟨S_, .f32⟩
  | .hbm, ⟨11, _⟩ => ⟨S8x2050x768, .f32⟩
  | .hbm, ⟨12, _⟩ => ⟨S8x2048x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S8x2048x768, .f32⟩
  | .hbm, ⟨17, _⟩ => ⟨S8x2048x768, .f32⟩
  | .hbm, ⟨18, _⟩ => ⟨S8x2048x768, .f32⟩
  | .hbm, ⟨19, _⟩ => ⟨S1x768, .f32⟩
  | .hbm, ⟨20, _⟩ => ⟨S768, .f32⟩
  | .hbm, ⟨21, _⟩ => ⟨S1x1x768, .f32⟩
  | .hbm, ⟨22, _⟩ => ⟨S8x2048x768, .f32⟩
  | .hbm, ⟨23, _⟩ => ⟨S8x2048x768, .f32⟩
  | .hbm, ⟨24, _⟩ => ⟨S8x2048x768, .f32⟩
  | .hbm, ⟨25, _⟩ => ⟨S8x2048x768, .f32⟩
  | .hbm, ⟨26, _⟩ => ⟨S1x768, .f32⟩
  | .hbm, ⟨27, _⟩ => ⟨S768, .f32⟩
  | .hbm, ⟨28, _⟩ => ⟨S1x1x768, .f32⟩
  | .hbm, ⟨29, _⟩ => ⟨S8x2048x768, .f32⟩
  | .hbm, ⟨30, _⟩ => ⟨S8x2048x768, .f32⟩
  | .hbm, ⟨31, _⟩ => ⟨S8x2048x768, .f32⟩
  | .hbm, ⟨32, _⟩ => ⟨S1x1x768, .f32⟩
  | .hbm, ⟨33, _⟩ => ⟨S8x2048x768, .f32⟩
  | .hbm, ⟨34, _⟩ => ⟨S8x2048x768, .f32⟩
  | .hbm, ⟨35, _⟩ => ⟨S8x2048x256, .f32⟩
  | .hbm, ⟨36, _⟩ => ⟨S8x2048x256, .f32⟩
  | .hbm, ⟨37, _⟩ => ⟨S8x2048x256, .f32⟩
  | .hbm, ⟨38, _⟩ => ⟨S8x1x2048x256, .f32⟩
  | .hbm, ⟨39, _⟩ => ⟨S8x1x2048x256, .f32⟩
  | .hbm, ⟨40, _⟩ => ⟨S8x1x2048x256, .f32⟩
  | .hbm, ⟨41, _⟩ => ⟨S8x3x2048x256, .f32⟩
  | _, _ => ⟨S8x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.Scores
public import proofs.«01_k».proof.Proof.Gen.Scores.Frame
public import proofs.«01_k».proof.Proof.Gen.ScoresIdeal
public import proofs.«01_k».proof.Proof.Gen.ScoresIdeal.Frame
public import proofs.«01_k».proof.Proof.Gen.ReferenceIdeal
public import proofs.«01_k».proof.Proof.Gen.ReferenceIdeal.Run
public import proofs.«01_k».proof.Proof.Gen.RefProjectionIdeal
public import proofs.«01_k».proof.Proof.Gen.RefProjectionIdeal.Run
public import proofs.«01_k».proof.Proof.Gen.RefMergeIdeal
public import proofs.«01_k».proof.Proof.Gen.RefMergeIdeal.Run
public import proofs.«01_k».proof.Proof.Gen.RefScoresIdeal
public import proofs.«01_k».proof.Proof.Gen.RefScoresIdeal.Run
public import proofs.«01_k».proof.Proof.Gen.Pre_finite_inputs
public import proofs.«01_k».proof.Proof.Gen.Pre_finite_tokens
public import Idealize.ShloMosaic.Lib.Claim

@[expose] public section

noncomputable section

/- The frames: each program runs to its end without fault, leaves its arguments as they were and every counter at zero. -/

namespace Cert.Proof

open Idealize.ShloMosaic Idealize.SL.Sem

theorem frame_Kernel : Cert.quiescent_Kernel (hKernel := Cert.Kernel.Gen.facts) :=
  fun m ρ _ => Cert.Kernel.Gen.frame (F := Bits) m ρ

theorem frame_KernelIdeal : Cert.quiescent_KernelIdeal (hKernelIdeal := Cert.KernelIdeal.Gen.facts) :=
  fun m ρ _ => Cert.KernelIdeal.Gen.frame (F := Ideal) m ρ

theorem frame_Projection : Cert.quiescent_Projection (hProjection := Cert.Projection.Gen.facts) :=
  fun m ρ _ => Cert.Projection.Gen.frame (F := Bits) m ρ

theorem frame_ProjectionIdeal : Cert.quiescent_ProjectionIdeal (hProjectionIdeal := Cert.ProjectionIdeal.Gen.facts) :=
  fun m ρ _ => Cert.ProjectionIdeal.Gen.frame (F := Ideal) m ρ

theorem frame_Merge : Cert.quiescent_Merge (hMerge := Cert.Merge.Gen.facts) :=
  fun m ρ _ => Cert.Merge.Gen.frame (F := Bits) m ρ

theorem frame_MergeIdeal : Cert.quiescent_MergeIdeal (hMergeIdeal := Cert.MergeIdeal.Gen.facts) :=
  fun m ρ _ => Cert.MergeIdeal.Gen.frame (F := Ideal) m ρ

theorem frame_Scores : Cert.quiescent_Scores (hScores := Cert.Scores.Gen.facts) :=
  fun m ρ _ => Cert.Scores.Gen.frame (F := Bits) m ρ

theorem frame_ScoresIdeal : Cert.quiescent_ScoresIdeal (hScoresIdeal := Cert.ScoresIdeal.Gen.facts) :=
  fun m ρ _ => Cert.ScoresIdeal.Gen.frame (F := Ideal) m ρ

/-- A host program declares no semaphore, so its counters are zero throughout. -/
theorem frame_ReferenceIdeal : Cert.quiescent_ReferenceIdeal (hReferenceIdeal := Cert.ReferenceIdeal.Gen.facts) :=
  fun m ρ _ => (θ_run Cert.ReferenceIdeal.defs _ _).mono (fun r h => ⟨fun c => (h c).2,
    sem_eq_zero_of_no_sems (by decide) r.2⟩) (Cert.ReferenceIdeal.Value.run (F := Ideal) m ρ)

/-- A host program declares no semaphore, so its counters are zero throughout. -/
theorem frame_RefProjectionIdeal : Cert.quiescent_RefProjectionIdeal (hRefProjectionIdeal := Cert.RefProjectionIdeal.Gen.facts) :=
  fun m ρ _ => (θ_run Cert.RefProjectionIdeal.defs _ _).mono (fun r h => ⟨fun c => (h c).2,
    sem_eq_zero_of_no_sems (by decide) r.2⟩) (Cert.RefProjectionIdeal.Value.run (F := Ideal) m ρ)

/-- A host program declares no semaphore, so its counters are zero throughout. -/
theorem frame_RefMergeIdeal : Cert.quiescent_RefMergeIdeal (hRefMergeIdeal := Cert.RefMergeIdeal.Gen.facts) :=
  fun m ρ _ => (θ_run Cert.RefMergeIdeal.defs _ _).mono (fun r h => ⟨fun c => (h c).2,
    sem_eq_zero_of_no_sems (by decide) r.2⟩) (Cert.RefMergeIdeal.Value.run (F := Ideal) m ρ)

/-- A host program declares no semaphore, so its counters are zero throughout. -/
theorem frame_RefScoresIdeal : Cert.quiescent_RefScoresIdeal (hRefScoresIdeal := Cert.RefScoresIdeal.Gen.facts) :=
  fun m ρ _ => (θ_run Cert.RefScoresIdeal.defs _ _).mono (fun r h => ⟨fun c => (h c).2.2,
    sem_eq_zero_of_no_sems (by decide) r.2⟩) (Cert.RefScoresIdeal.Value.run (F := Ideal) m ρ)

end Cert.Proof

end
-- ==== Proof.FramesBeside.lean ====
module

public import proofs.«01_k».proof.Defs
public import proofs.«01_k».proof.Proof.Gen.ShortConv
public import proofs.«01_k».proof.Proof.Gen.ShortConv.Frame
public import proofs.«01_k».proof.Proof.Gen.ShortConvIdeal
public import proofs.«01_k».proof.Proof.Gen.ShortConvIdeal.Frame
public import proofs.«01_k».proof.Proof.Gen.RefShortConvIdeal
public import proofs.«01_k».proof.Proof.Gen.RefShortConvIdeal.Run
public import Idealize.ShloMosaic.Lib.Claim

@[expose] public section

noncomputable section

/- The frames: each program runs to its end without fault, leaves its arguments as they were and every counter at zero. -/

namespace Cert.Proof

open Idealize.ShloMosaic Idealize.SL.Sem

theorem frame_ShortConv : Cert.quiescent_ShortConv (hShortConv := Cert.ShortConv.Gen.facts) :=
  fun m ρ _ => Cert.ShortConv.Gen.frame (F := Bits) m ρ

theorem frame_ShortConvIdeal : Cert.quiescent_ShortConvIdeal (hShortConvIdeal := Cert.ShortConvIdeal.Gen.facts) :=
  fun m ρ _ => Cert.ShortConvIdeal.Gen.frame (F := Ideal) m ρ

/-- A host program declares no semaphore, so its counters are zero throughout. -/
theorem frame_RefShortConvIdeal : Cert.quiescent_RefShortConvIdeal (hRefShortConvIdeal := Cert.RefShortConvIdeal.Gen.facts) :=
  fun m ρ _ => (θ_run Cert.RefShortConvIdeal.defs _ _).mono (fun r h => ⟨fun c => (h c).2,
    sem_eq_zero_of_no_sems (by decide) r.2⟩) (Cert.RefShortConvIdeal.Value.run (F := Ideal) m ρ)

end Cert.Proof

end
-- ==== Proof.ConvRegion.lean ====
module

public import proofs.«01_k».proof.Proof.Gen.ShortConvIdeal.Frame
public import Idealize.ShloMosaic.Lib.Pipeline.ValueKit
public import Idealize.ShloMosaic.Lib.Claim

@[expose] public section

set_option maxRecDepth 16384

noncomputable section

namespace Cert.ShortConvIdeal.Value

open Cert.ShortConvIdeal Cert.ShortConvIdeal.Gen Idealize.ShloMosaic Idealize.ShloMosaic.TcCoe Idealize.SL.Sem
open Idealize.ShloMosaic.Pipeline (Dat)

/-- Three taps on a column of tokens, with zeros before its first and after its last token. -/
def taps (x : Fin 2048 → EReal) (a b c d : EReal) (r : Fin 2048) : EReal :=
  (if (r : ℕ) = 0 then 0 else x ⟨(r : ℕ) - 1, by omega⟩) * a + x r * b
    + (if h : (r : ℕ) = 2047 then 0 else x ⟨(r : ℕ) + 1, by omega⟩) * c + d

theorem taps_congr {x x' : Fin 2048 → EReal} {a a' b b' c c' d d' : EReal} {r : Fin 2048} (hx : x = x') (ha : a = a') (hb : b = b')
    (hc : c = c') (hd : d = d') : taps x a b c d r = taps x' a' b' c' d' r := by
  rw [hx, ha, hb, hc, hd]

theorem first_at (r : Fin 2048) : IntOp.cmpi CmpIPredicate.eq (BitVec.ofNat 32 r) 0#32 = if (r : ℕ) = 0 then 1#1 else 0#1 := by
  revert r
  decide +kernel

theorem last_at (r : Fin 2048) : IntOp.cmpi CmpIPredicate.eq (BitVec.ofNat 32 r) 2047#32 = if (r : ℕ) = 2047 then 1#1 else 0#1 := by
  revert r
  decide +kernel

theorem pay1_at (x : FVec Ideal S1x2048x256 .bf16) (w0 w1 w2 bs : FVec Ideal S1x256 .f32) (u v : Fin 1) (r : Fin 2048) (d : Fin 256) :
    k0_pay1 (F := Ideal) x w0 w1 w2 bs (ix4 u v r d) = taps (fun r => x (ix3 0 r d)) (w0 (ix2 0 d)) (w1 (ix2 0 d)) (w2 (ix2 0 d))
      (bs (ix2 0 d)) r := by
  pointwise [k0_pay1]
  rw [first_at, last_at]
  unfold taps
  have e1 : (r : ℕ) ≠ 0 → (⟨((r : ℕ) + 2048 - 1) % 2048, Nat.mod_lt _ (by omega)⟩ : Fin 2048) = ⟨(r : ℕ) - 1, by omega⟩ :=
    fun h => Fin.ext (by dsimp only; omega)
  have e2 : (h : (r : ℕ) ≠ 2047) → (⟨((r : ℕ) + 2048 - 2047) % 2048, Nat.mod_lt _ (by omega)⟩ : Fin 2048) = ⟨(r : ℕ) + 1, by omega⟩ :=
    fun h => Fin.ext (by dsimp only; omega)
  by_cases h0 : (r : ℕ) = 0
  · have h1 : (r : ℕ) ≠ 2047 := by omega
    rw [if_pos h0, if_pos h0, if_neg h1, dif_neg h1]
    simp only [Scalar.select, e2 h1]
    simp
  · rw [if_neg h0, if_neg h0]
    by_cases h1 : (r : ℕ) = 2047
    · rw [if_pos h1, dif_pos h1]
      simp only [Scalar.select, e1 h0]
      simp
    · rw [if_neg h1, dif_neg h1]
      simp only [Scalar.select, e1 h0, e2 h1]
      simp

variable (m : (ℓ : Loc nD τ sig) → Buf (Elt Ideal) ℓ)

theorem idx0 : ∀ t : Fin cfg0.N,
    win0_0.index t = ![t.val / 3, 0, 12 + t.val % 3] ∧ win0_1.index t = ![0, t.val % 3] ∧ win0_2.index t = ![0, t.val % 3]
    ∧ win0_3.index t = ![t.val / 3, t.val % 3, 0, 0] ∧ t.val / 3 < 8 :=
  (by decide +kernel : ∀ t : Fin grid0.N, _)

theorem lt0 (t : Fin cfg0.N) : t.val / 3 < 8 := (idx0 t).2.2.2.2

theorem emb0_3 (t : Fin cfg0.N) (u v : Fin 1) (r : Fin 2048) (d : Fin 256) :
    ((cfg0.win 3).blk t).view.emb (ix4 u v r d) = ix4 ⟨t.val / 3, lt0 t⟩ ⟨t.val % 3, by omega⟩ r d := by
  blk_ext [idx0 t]

theorem read0_0 (c : Dev nD) (t : Fin cfg0.N) (r : Fin 2048) (d : Fin 256) :
    (show FVec Ideal S1x2048x256 .bf16 from iblk m c 0 t) (ix3 0 r d) =
      (show FVec Ideal S8x2048x5632 .bf16 from V m c main_v3)
        (ix3 ⟨t.val / 3, lt0 t⟩ r ⟨3072 + (t.val % 3 * 256 + d), by omega⟩) := by
  blk_ext [iblk, idx0 t]

theorem read0_1 (c : Dev nD) (t : Fin cfg0.N) (r : Fin 3) (d : Fin 256) :
    (show FVec Ideal S3x256 .f32 from iblk m c 1 t) (ix2 r d) =
      (show FVec Ideal S3x768 .f32 from V m c main_arg1) (ix2 r ⟨t.val % 3 * 256 + d, by omega⟩) := by
  blk_ext [iblk, idx0 t]

theorem read0_2 (c : Dev nD) (t : Fin cfg0.N) (d : Fin 256) :
    (show FVec Ideal S1x256 .f32 from iblk m c 2 t) (ix2 0 d) =
      (show FVec Ideal S1x768 .f32 from V m c main_v4) (ix2 0 ⟨t.val % 3 * 256 + d, by omega⟩) := by
  blk_ext [iblk, idx0 t]

theorem host3 (c : Dev nD) (b : Fin 8) (r : Fin 2048) (d : Fin 2560) :
    (show FVec Ideal S8x2048x5632 .bf16 from V m c main_v3) (ix3 b r ⟨3072 + d, by omega⟩) =
      (show FVec Ideal S8x2048x5632 .f32 from m ((c : Thread nD τ).loc main_arg0)) (ix3 b r ⟨d, by omega⟩) := by
  entry_read
  pointwise []

theorem host4 (c : Dev nD) (d : Fin 768) : (show FVec Ideal S1x768 .f32 from V m c main_v4) (ix2 0 d) =
    (show FVec Ideal S768 .f32 from m ((c : Thread nD τ).loc main_arg2)) (ix1 d) := by
  entry_read
  pointwise []

/-- Whole arrays: the three groups of 256 columns, one after the other. -/
def convolved (h : FVec Ideal S8x2048x5632 .f32) (w : FVec Ideal S3x768 .f32) (bs : FVec Ideal S768 .f32) :
    FVec Ideal S8x3x2048x256 .f32 := fun i =>
  have hc : (i 1 : ℕ) * 256 + (i 3 : ℕ) < 768 := by
    have h1 : (i 1 : ℕ) < 3 := (i 1).isLt
    have h3 : (i 3 : ℕ) < 256 := (i 3).isLt
    omega
  taps (fun r => h (ix3 (i 0) r ⟨(i 1 : ℕ) * 256 + (i 3 : ℕ), by omega⟩)) (w (ix2 0 ⟨_, hc⟩)) (w (ix2 1 ⟨_, hc⟩))
    (w (ix2 2 ⟨_, hc⟩)) (bs (ix1 ⟨_, hc⟩)) (i 2)

theorem final0 (c : Dev nD) : (dats m 0 c).arrAt 3 cfg0.N = convolved (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  idx_vars y
  refine (pay1_at _ _ _ _ _ _ _ _ _).trans (Eq.trans ?_ (congrArg (convolved (m ((c : Thread nD τ).loc main_arg0))
    (m ((c : Thread nD τ).loc main_arg1)) (m ((c : Thread nD τ).loc main_arg2))) (emb0_3 t _ _ _ _)).symm)
  have l1 : ∀ (A : Vec Ideal S3x256 .f32) (d : Fin 256), View.ld A r0_1 (ix2 0 d) = A (ix2 0 d) := fun A d => by
    refine (congrFun (View.ld_unit A _ _ _) _).trans ?_
    pointwise []
  have l2 : ∀ (A : Vec Ideal S3x256 .f32) (d : Fin 256), View.ld A r0_2 (ix2 0 d) = A (ix2 1 d) := fun A d => by
    refine (congrFun (View.ld_unit A _ _ _) _).trans ?_
    pointwise []
  have l3 : ∀ (A : Vec Ideal S3x256 .f32) (d : Fin 256), View.ld A r0_3 (ix2 0 d) = A (ix2 2 d) := fun A d => by
    refine (congrFun (View.ld_unit A _ _ _) _).trans ?_
    pointwise []
  have lt := lt0 t
  have hx : ∀ r : Fin 2048, (show FVec Ideal S1x2048x256 .bf16 from iblk m c 0 t) (ix3 0 r y3) = (show FVec Ideal S8x2048x5632 .f32 from
      m ((c : Thread nD τ).loc main_arg0)) (ix3 ⟨t.val / 3, lt⟩ r ⟨t.val % 3 * 256 + (y3 : ℕ), by omega⟩) := fun r =>
    ((read0_0 m c t r y3).trans (host3 m c _ r ⟨t.val % 3 * 256 + (y3 : ℕ), by omega⟩))
  have hw := fun r => (read0_1 m c t r y3).trans (congrFun (V_main_arg1 m c) _)
  have hb := (read0_2 m c t y3).trans (host4 m c _)
  unfold convolved
  rw [l1, l2, l3]
  exact taps_congr (funext hx) (hw 0) (hw 1) (hw 2) hb

end Cert.ShortConvIdeal.Value

end
-- ==== Proof.RefShortConv.lean ====
module

public import proofs.«01_k».proof.Proof.Gen.RefShortConvIdeal.Read
public import proofs.«01_k».proof.Proof.ConvRegion

@[expose] public section

set_option maxRecDepth 16384

noncomputable section

namespace Cert.RefShortConvIdeal.Value

open Cert.RefShortConvIdeal Cert.RefShortConvIdeal.Read Idealize.ShloMosaic
open Cert.ShortConvIdeal.Value (taps convolved)

variable (x0 : FVec Ideal S8x2048x5632 .f32) (x1 : FVec Ideal S3x768 .f32) (x2 : FVec Ideal S768 .f32)

theorem pad_in (b : Fin 8) (r : Fin 2048) (d : Fin 768) :
    val_main_v6 (F := Ideal) x0 (ix3 b ⟨r + 1, by omega⟩ d) = x0 (ix3 b r ⟨d, by omega⟩) := by
  pointwise [val_main_v6]
  rw [dif_pos (by omega)]
  pointwise [val_main_v0]
  exact congrArg (fun q => x0 (ix3 b q _)) (Fin.ext (by dsimp only; omega))

theorem pad_out (b : Fin 8) (r : Fin 2050) (d : Fin 768) (h : (r : ℕ) = 0 ∨ (r : ℕ) = 2049) :
    val_main_v6 (F := Ideal) x0 (ix3 b r d) = 0 := by
  pointwise [val_main_v6]
  rw [dif_neg (by omega)]
  pointwise [val_main_call0_v0, val_main_c]
  simp [FloatOps.sitofp]

theorem conv_at (b : Fin 8) (r : Fin 2048) (d : Fin 768) :
    val_main_v29 (F := Ideal) x0 x1 x2 (ix3 b r d) =
      taps (fun r => x0 (ix3 b r ⟨d, by omega⟩)) (x1 (ix2 0 d)) (x1 (ix2 1 d)) (x1 (ix2 2 d)) (x2 (ix1 d)) r := by
  have e0 : val_main_v6 (F := Ideal) x0 (ix3 b ⟨r, by omega⟩ d) = if (r : ℕ) = 0 then 0 else x0 (ix3 b ⟨(r : ℕ) - 1, by omega⟩ ⟨d, by omega⟩) := by
    split_ifs with h
    · exact pad_out x0 _ _ _ (Or.inl h)
    · exact (congrArg (fun q => val_main_v6 (F := Ideal) x0 (ix3 b q d)) (Fin.ext (by dsimp only; omega))).trans (pad_in x0 b ⟨(r : ℕ) - 1, by omega⟩ d)
  have e2 : val_main_v6 (F := Ideal) x0 (ix3 b ⟨(r : ℕ) + 2, by omega⟩ d) =
      if h : (r : ℕ) = 2047 then 0 else x0 (ix3 b ⟨(r : ℕ) + 1, by omega⟩ ⟨d, by omega⟩) := by
    split_ifs with h
    · exact pad_out x0 _ _ _ (Or.inr (by dsimp only; omega))
    · exact pad_in x0 b ⟨(r : ℕ) + 1, by omega⟩ d
  unfold taps
  rw [← e0, ← e2]
  dsimp only
  rw [← pad_in x0 b r d]
  generalize hy : val_main_v6 (F := Ideal) x0 = y
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7]
  subst hy
  have s1 : (⟨1 + (r : ℕ), by omega⟩ : Fin 2050) = ⟨(r : ℕ) + 1, by omega⟩ := Fin.ext (Nat.add_comm _ _)
  have s2 : (⟨2 + (r : ℕ), by omega⟩ : Fin 2050) = ⟨(r : ℕ) + 2, by omega⟩ := Fin.ext (Nat.add_comm _ _)
  rw [s1, s2]

theorem out_at (b : Fin 8) (p : Fin 3) (r : Fin 2048) (d : Fin 256) :
    val_main_v36 (F := Ideal) x0 x1 x2 (ix4 b p r d) = val_main_v29 (F := Ideal) x0 x1 x2 (ix3 b r ⟨(p : ℕ) * 256 + (d : ℕ), by omega⟩) := by
  unfold val_main_v36 val_main_v35 val_main_v34 val_main_v33 val_main_v32 val_main_v31 val_main_v30
  generalize val_main_v29 (F := Ideal) x0 x1 x2 = y
  fin_cases p <;> pointwise []

theorem ref_eq : val_main_v36 (F := Ideal) x0 x1 x2 = convolved x0 x1 x2 := by
  funext i
  idx_vars i
  exact (out_at x0 x1 x2 _ _ _ _).trans (conv_at x0 x1 x2 _ _ _)

end Cert.RefShortConvIdeal.Value

end
-- ==== Proof.AlgebraicConv.lean ====
module

public import proofs.«01_k».proof.Defs
public import proofs.«01_k».proof.Proof.RefShortConv
public import proofs.«01_k».proof.Proof.Gen.RefShortConvIdeal
public import proofs.«01_k».proof.Proof.Gen.RefShortConvIdeal.Run
public import Idealize.ShloMosaic.Lib.Claim

@[expose] public section

set_option maxRecDepth 16384

noncomputable section

namespace Cert.Proof

open Idealize.ShloMosaic Idealize.SL.Sem

/-- The short convolution and its reference leave the same array. -/
theorem algebraic_short_conv : Cert.algebraic_ShortConvIdeal_RefShortConvIdeal
    (hShortConvIdeal := Cert.ShortConvIdeal.Gen.facts) (hRefShortConvIdeal := Cert.RefShortConvIdeal.Gen.facts) := by
  pair_intro
  · run_from Cert.ShortConvIdeal.Gen.run_main m g
  · run_from Cert.RefShortConvIdeal.Value.run m' g'
    obtain ⟨h0, h1, h2⟩ := hagree c
    rw [Cert.RefShortConvIdeal.Read.val_main_v36_eq, h0, h1, h2]
    exact (Cert.RefShortConvIdeal.Value.ref_eq _ _ _).trans (Cert.ShortConvIdeal.Value.final0 m c).symm

end Cert.Proof

end
-- ==== Proof.ProjRegion.lean ====
module

public import proofs.«01_k».proof.Proof.Gen.ProjectionIdeal.Frame
public import Idealize.ShloMosaic.Lib.Pipeline.ValueKit
public import Idealize.ShloMosaic.Lib.Claim

@[expose] public section

set_option maxRecDepth 16384

noncomputable section

namespace Cert.ProjectionIdeal.Value

open Cert.ProjectionIdeal Cert.ProjectionIdeal.Gen Idealize.ShloMosaic Idealize.ShloMosaic.TcCoe Idealize.SL.Sem
open Idealize.ShloMosaic.Pipeline (Dat)

/-- A row over its root mean square, weighted, scaled and shifted. -/
def xnRow (x g sh sc : Fin 1024 → EReal) (j : Fin 1024) : EReal :=
  x j * Ideal.rsqrt (Ideal.div (∑ e, x e * x e) (Ideal.ofBits .f32 0x44800000#32) + Ideal.ofBits .f32 0x358637BD#32) * g j
    * (1 + sc j) + sh j

theorem pay1_at (x : FVec Ideal S1x1024x1024 .f32) (g : FVec Ideal S1x1024 .f32) (sh sc : FVec Ideal S1x1x1x1x1024 .f32)
    (r j : Fin 1024) :
    k0_pay1 (F := Ideal) x g sh sc (ix2 r j) = xnRow (fun e => x (ix3 0 r e)) (fun e => g (ix2 0 e))
      (fun e => sh (ix5 0 0 0 0 e)) (fun e => sc (ix5 0 0 0 0 e)) j := by
  pointwise [k0_pay1]
  rfl

theorem pay2_at (x : FVec Ideal S1024x1024 .bf16) (w : FVec Ideal S1024x2816 .bf16) (b : Fin 1) (r : Fin 1024) (d : Fin 2816) :
    k0_pay2 (F := Ideal) x w (ix3 b r d) = ∑ j : Fin 1024, x (ix2 r j) * w (ix2 j d) := by
  pointwise [k0_pay2]

variable (m : (ℓ : Loc nD τ sig) → Buf (Elt Ideal) ℓ)

theorem idx0 : ∀ t : Fin cfg0.N,
    win0_0.index t = ![t.val / 4, t.val / 2 % 2, 0] ∧ win0_1.index t = ![0, 0]
    ∧ win0_2.index t = ![0, t.val / 4, 0, 0, 0] ∧ win0_3.index t = ![0, t.val / 4, 1, 0, 0]
    ∧ win0_4.index t = ![0, t.val % 2] ∧ win0_5.index t = ![t.val / 4, t.val / 2 % 2, t.val % 2] ∧ t.val / 4 < 8 :=
  (by decide +kernel : ∀ t : Fin grid0.N, _)

theorem lt0 (t : Fin cfg0.N) : t.val / 4 < 8 := (idx0 t).2.2.2.2.2.2

theorem emb0_5 (t : Fin cfg0.N) (b : Fin 1) (r : Fin 1024) (d : Fin 2816) :
    ((cfg0.win 5).blk t).view.emb (ix3 b r d) = ix3 ⟨t.val / 4, lt0 t⟩ ⟨t.val / 2 % 2 * 1024 + r, by omega⟩
      ⟨t.val % 2 * 2816 + d, by omega⟩ := by
  blk_ext [idx0 t]

theorem read0_0 (c : Dev nD) (t : Fin cfg0.N) (b : Fin 1) (r : Fin 1024) (d : Fin 1024) :
    (show FVec Ideal S1x1024x1024 .f32 from iblk m c 0 t) (ix3 b r d) =
      (show FVec Ideal S8x2048x1024 .f32 from m ((c : Thread nD τ).loc main_arg0))
      (ix3 ⟨t.val / 4, lt0 t⟩ ⟨t.val / 2 % 2 * 1024 + r, by omega⟩ d) := by
  rw [← V_main_arg0 m c]
  blk_ext [iblk, idx0 t]

theorem read0_1 (c : Dev nD) (t : Fin cfg0.N) (b : Fin 1) (d : Fin 1024) :
    (show FVec Ideal S1x1024 .f32 from iblk m c 1 t) (ix2 b d) =
      (show FVec Ideal S1x1024 .f32 from V m c main_v0) (ix2 b d) := by
  blk_ext [iblk, idx0 t]

theorem read0_2 (c : Dev nD) (t : Fin cfg0.N) (d : Fin 1024) :
    (show FVec Ideal S1x1x1x1x1024 .f32 from iblk m c 2 t) (ix5 0 0 0 0 d) =
      (show FVec Ideal S1x16x6x1x1024 .f32 from V m c main_v3) (ix5 0 ⟨t.val / 4, by have := lt0 t; omega⟩ 0 0 d) := by
  blk_ext [iblk, idx0 t]

theorem read0_3 (c : Dev nD) (t : Fin cfg0.N) (d : Fin 1024) :
    (show FVec Ideal S1x1x1x1x1024 .f32 from iblk m c 3 t) (ix5 0 0 0 0 d) =
      (show FVec Ideal S1x16x6x1x1024 .f32 from V m c main_v3) (ix5 0 ⟨t.val / 4, by have := lt0 t; omega⟩ 1 0 d) := by
  blk_ext [iblk, idx0 t]

theorem read0_4 (c : Dev nD) (t : Fin cfg0.N) (r : Fin 1024) (d : Fin 2816) :
    (show FVec Ideal S1024x2816 .bf16 from iblk m c 4 t) (ix2 r d) =
      (show FVec Ideal S1024x5632 .bf16 from V m c main_v7) (ix2 r ⟨t.val % 2 * 2816 + d, by omega⟩) := by
  blk_ext [iblk, idx0 t]

theorem host0 (c : Dev nD) (b : Fin 1) (d : Fin 1024) :
    (show FVec Ideal S1x1024 .f32 from V m c main_v0) (ix2 b d) =
      (show FVec Ideal S1024 .f32 from m ((c : Thread nD τ).loc main_arg1)) (ix1 d) := by
  entry_read
  pointwise []

theorem host3 (c : Dev nD) (b : Fin 8) (a : Fin 6) (d : Fin 1024) :
    (show FVec Ideal S1x16x6x1x1024 .f32 from V m c main_v3) (ix5 0 ⟨b, by omega⟩ a 0 d) =
      (show FVec Ideal S8x6144 .f32 from m ((c : Thread nD τ).loc main_arg2)) (ix2 b ⟨a * 1024 + d, by omega⟩) := by
  entry_read
  pointwise []

theorem host7 (c : Dev nD) (r : Fin 1024) (d : Fin 5632) :
    (show FVec Ideal S1024x5632 .bf16 from V m c main_v7) (ix2 r d) =
      (show FVec Ideal S1024x5632 .f32 from m ((c : Thread nD τ).loc main_arg3))
        (ix2 r ⟨if d.val < 3072 then 2560 + d else d - 3072, by split <;> omega⟩) := by
  entry_read
  pointwise []
  split <;> rfl

/-- Every token of every batch through the modulated norm and the weight, whose columns from 2560 on come first. -/
def projected (x : FVec Ideal S8x2048x1024 .f32) (g : FVec Ideal S1024 .f32) (md : FVec Ideal S8x6144 .f32)
    (w : FVec Ideal S1024x5632 .f32) : FVec Ideal S8x2048x5632 .bf16 := fun i =>
  ∑ j : Fin 1024, xnRow (fun e => x (ix3 (i 0) (i 1) e)) (fun e => g (ix1 e)) (fun e => md (ix2 (i 0) ⟨e, by omega⟩))
      (fun e => md (ix2 (i 0) ⟨1024 + e, by omega⟩)) j
    * w (ix2 j ⟨if (i 2 : ℕ) < 3072 then 2560 + (i 2 : ℕ) else (i 2 : ℕ) - 3072, by
        have h : (i 2 : ℕ) < 5632 := (i 2).isLt
        split <;> omega⟩)

/-- The modulated rows of the block of tokens point `t` works on. -/
def rows (c : Dev nD) (t : Fin cfg0.N) (r j : Fin 1024) : EReal :=
  xnRow (fun e => (show FVec Ideal S8x2048x1024 .f32 from m ((c : Thread nD τ).loc main_arg0))
      (ix3 ⟨t.val / 4, lt0 t⟩ ⟨t.val / 2 % 2 * 1024 + r, by omega⟩ e))
    (fun e => (show FVec Ideal S1024 .f32 from m ((c : Thread nD τ).loc main_arg1)) (ix1 e))
    (fun e => (show FVec Ideal S8x6144 .f32 from m ((c : Thread nD τ).loc main_arg2)) (ix2 ⟨t.val / 4, lt0 t⟩ ⟨e, by omega⟩))
    (fun e => (show FVec Ideal S8x6144 .f32 from m ((c : Thread nD τ).loc main_arg2)) (ix2 ⟨t.val / 4, lt0 t⟩ ⟨1024 + e, by omega⟩)) j

theorem xnRow_congr {x x' g g' a a' b b' : Fin 1024 → EReal} (hx : ∀ e, x e = x' e) (hg : ∀ e, g e = g' e)
    (ha : ∀ e, a e = a' e) (hb : ∀ e, b e = b' e) (j : Fin 1024) : xnRow x g a b j = xnRow x' g' a' b' j := by
  obtain rfl : x = x' := funext hx
  obtain rfl : g = g' := funext hg
  obtain rfl : a = a' := funext ha
  obtain rfl : b = b' := funext hb
  rfl

theorem rows_eq (c : Dev nD) (t : Fin cfg0.N) (r j : Fin 1024) :
    k0_pay1 (F := Ideal) (iblk m c 0 t) (iblk m c 1 t) (iblk m c 2 t) (iblk m c 3 t) (ix2 r j) = rows m c t r j := by
  refine (pay1_at _ _ _ _ r j).trans (xnRow_congr (fun e => read0_0 m c t _ _ _)
    (fun e => (read0_1 m c t _ _).trans (host0 m c _ _)) (fun e => (read0_2 m c t _).trans ?_)
    (fun e => (read0_3 m c t _).trans ?_) j)
  · refine (host3 m c ⟨t.val / 4, lt0 t⟩ 0 e).trans (congrArg _ (congrArg _ (Fin.ext ?_)))
    show 0 * 1024 + e.val = e.val
    omega
  · exact host3 m c ⟨t.val / 4, lt0 t⟩ 1 e

/-- The scratch holds, from the first of a block's points on, the block's modulated rows. -/
theorem scratch_eq (c : Dev nD) (t : Fin cfg0.N) (h0 : t.val % 2 = 0) (r j : Fin 1024) :
    (outsAt0 m c t.val t.isLt).2 (ix2 r j) = rows m c t r j := by
  rw [outsAt0_A m c t h0]
  dsimp only
  unfold sout0_A_0
  frame_out
  exact rows_eq m c t r j

theorem scratch_even (c : Dev nD) (n : ℕ) (hn : n < cfg0.N) (h0 : n % 2 = 0) (r j : Fin 1024) :
    (outsAt0 m c n hn).2 (ix2 r j) = rows m c ⟨n, hn⟩ r j := scratch_eq m c ⟨n, hn⟩ h0 r j

/-- A row times the columns of the weight the point's block holds is that block of the result. -/
theorem block_eq (c : Dev nD) (t : Fin cfg0.N) (b : Fin 1) (r : Fin 1024) (d : Fin 2816) :
    ∑ j : Fin 1024, rows m c t r j * (show FVec Ideal S1024x2816 .bf16 from iblk m c 4 t) (ix2 j d) =
      projected (m ((c : Thread nD τ).loc main_arg0)) (m ((c : Thread nD τ).loc main_arg1)) (m ((c : Thread nD τ).loc main_arg2))
        (m ((c : Thread nD τ).loc main_arg3)) (ix3 ⟨t.val / 4, lt0 t⟩ ⟨t.val / 2 % 2 * 1024 + r, by omega⟩
          ⟨t.val % 2 * 2816 + d, by omega⟩) :=
  Finset.sum_congr rfl fun j _ => congrArg (rows m c t r j * ·) ((read0_4 m c t j d).trans (host7 m c j _))

theorem final0 (c : Dev nD) : (dats m 0 c).arrAt 5 cfg0.N = projected (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h0 : t.val % 2 = 0
  · rw [outsAt0_A m c t h0]
    dsimp only
    unfold out0_A_5
    frame_out
    idx_vars y
    refine (pay2_at _ _ _ _ _).trans (Eq.trans ?_ (congrArg (projected (m ((c : Thread nD τ).loc main_arg0))
      (m ((c : Thread nD τ).loc main_arg1)) (m ((c : Thread nD τ).loc main_arg2)) (m ((c : Thread nD τ).loc main_arg3)))
      (emb0_5 t _ _ _)).symm)
    refine Eq.trans ?_ (block_eq m c t 0 _ _)
    exact Finset.sum_congr rfl fun j _ => congrArg (· * _) (rows_eq m c t _ j)
  · rw [outsAt0_B m c t h0]
    dsimp only
    unfold out0_B_5
    frame_out
    rw [(Memref.isWhole_whole _).read_unread]
    idx_vars y
    refine (pay2_at _ _ _ _ _).trans (Eq.trans ?_ (congrArg (projected (m ((c : Thread nD τ).loc main_arg0))
      (m ((c : Thread nD τ).loc main_arg1)) (m ((c : Thread nD τ).loc main_arg2)) (m ((c : Thread nD τ).loc main_arg3)))
      (emb0_5 t _ _ _)).symm)
    refine Eq.trans ?_ (block_eq m c t 0 _ _)
    refine Finset.sum_congr rfl fun j _ => congrArg (· * _) ?_
    refine (scratch_even m c (t.val - 1) _ (by omega) _ j).trans ?_
    have e1 : (t.val - 1) / 4 = t.val / 4 := by omega
    have e2 : (t.val - 1) / 2 % 2 = t.val / 2 % 2 := by omega
    unfold rows
    simp only [e1, e2]

end Cert.ProjectionIdeal.Value

end
-- ==== Proof.RefProj.lean ====
module

public import proofs.«01_k».proof.Proof.Gen.RefProjectionIdeal.Read
public import proofs.«01_k».proof.Proof.ProjRegion

@[expose] public section

set_option maxRecDepth 16384

noncomputable section

namespace Cert.RefProjectionIdeal.Value

open Cert.RefProjectionIdeal Cert.RefProjectionIdeal.Read Idealize.ShloMosaic
open Cert.ProjectionIdeal.Value (xnRow projected)

theorem norm_at (x0 : FVec Ideal S8x2048x1024 .f32) (x1 : FVec Ideal S1024 .f32) (x2 : FVec Ideal S8x6144 .f32)
    (b : Fin 8) (r : Fin 2048) (j : Fin 1024) :
    val_main_v25 (F := Ideal) x0 x1 x2 (ix3 b r j) = xnRow (fun e => x0 (ix3 b r e)) (fun e => x1 (ix1 e))
      (fun e => x2 (ix2 b ⟨e, by omega⟩)) (fun e => x2 (ix2 b ⟨1024 + e, by omega⟩)) j := by
  pointwise [val_main_v0, val_main_v1, val_main_v2, val_main_v3, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2]
  rfl

theorem dot_at (x0 : FVec Ideal S8x2048x1024 .f32) (x1 : FVec Ideal S1024 .f32) (x2 : FVec Ideal S8x6144 .f32)
    (x3 : FVec Ideal S1024x5632 .f32) (b : Fin 8) (r : Fin 2048) (d : Fin 5632) :
    val_main_v26 (F := Ideal) x0 x1 x2 x3 (ix3 b r d) = ∑ j : Fin 1024, val_main_v25 (F := Ideal) x0 x1 x2 (ix3 b r j) * x3 (ix2 j d) := by
  pointwise [val_main_v26]

theorem col_congr (x0 : FVec Ideal S8x2048x1024 .f32) (x1 : FVec Ideal S1024 .f32) (x2 : FVec Ideal S8x6144 .f32)
    (x3 : FVec Ideal S1024x5632 .f32) (b : Fin 8) (r : Fin 2048) {n n' : ℕ} (h : n < 5632) (h' : n' < 5632) (e : n = n') :
    val_main_v26 (F := Ideal) x0 x1 x2 x3 (ix3 b r ⟨n, h⟩) = val_main_v26 (F := Ideal) x0 x1 x2 x3 (ix3 b r ⟨n', h'⟩) := by
  subst e
  rfl

theorem cols_at (x0 : FVec Ideal S8x2048x1024 .f32) (x1 : FVec Ideal S1024 .f32) (x2 : FVec Ideal S8x6144 .f32)
    (x3 : FVec Ideal S1024x5632 .f32) (b : Fin 8) (r : Fin 2048) (d : Fin 5632) :
    val_main_v34 (F := Ideal) x0 x1 x2 x3 (ix3 b r d) = val_main_v26 (F := Ideal) x0 x1 x2 x3
      (ix3 b r ⟨if d.val < 3072 then 2560 + d else d - 3072, by split <;> omega⟩) := by
  pointwise [val_main_v34, val_main_v33, val_main_v32, val_main_v31, val_main_v30, val_main_v29, val_main_v28, val_main_v27]
  split_ifs
  all_goals
    refine col_congr x0 x1 x2 x3 b r _ _ ?_
    omega

theorem ref_eq (x0 : FVec Ideal S8x2048x1024 .f32) (x1 : FVec Ideal S1024 .f32) (x2 : FVec Ideal S8x6144 .f32)
    (x3 : FVec Ideal S1024x5632 .f32) : val_main_v34 (F := Ideal) x0 x1 x2 x3 = projected x0 x1 x2 x3 := by
  funext i
  idx_vars i
  refine (cols_at x0 x1 x2 x3 _ _ _).trans ((dot_at x0 x1 x2 x3 _ _ _).trans ?_)
  exact Finset.sum_congr rfl fun j _ => congrArg (· * _) (norm_at x0 x1 x2 _ _ j)

end Cert.RefProjectionIdeal.Value

end
-- ==== Proof.MergeRegion.lean ====
module

public import proofs.«01_k».proof.Proof.Gen.MergeIdeal.Frame
public import Idealize.ShloMosaic.Lib.Pipeline.ValueKit
public import Idealize.ShloMosaic.Lib.Claim

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

/-- The logistic function, as both programs compute it. -/
def gate (x : EReal) : EReal := Ideal.div 1 (1 + Ideal.exp (-x))

/-- The gated sum of the three branches' projections, at column `j` of the merged row. -/
def mixRow (g : Fin 3072 → EReal) (a b : Fin 256 → EReal) (e : Fin 512 → EReal) (pa pb : Fin 256 → Fin 1024 → EReal)
    (pe : Fin 512 → Fin 1024 → EReal) (j : Fin 1024) : EReal :=
  gate (g ⟨j, by omega⟩) * ∑ k, a k * pa k j + gate (g ⟨1024 + j, by omega⟩) * ∑ k, b k * pb k j
    + gate (g ⟨2048 + j, by omega⟩) * ∑ k, e k * pe k j

theorem pay2_at (g : FVec Ideal S1x1024x3072 .bf16) (a : FVec Ideal S1x1024x256 .bf16) (pa : FVec Ideal S256x1024 .bf16)
    (b : FVec Ideal S1x1024x256 .bf16) (pb : FVec Ideal S256x1024 .bf16) (e : FVec Ideal S1x1024x512 .bf16)
    (pe : FVec Ideal S512x1024 .bf16) (r j : Fin 1024) :
    k0_pay2 (F := Ideal) g a pa b pb e pe (ix2 r j) = mixRow (fun k => g (ix3 0 r k)) (fun k => a (ix3 0 r k))
      (fun k => b (ix3 0 r k)) (fun k => e (ix3 0 r k)) (fun k i => pa (ix2 k i)) (fun k i => pb (ix2 k i))
      (fun k i => pe (ix2 k i)) j := by
  pointwise [k0_pay2]
  simp only [zero_sub]
  rfl

theorem pay1_at (h : FVec Ideal S1024x1024 .bf16) (w : FVec Ideal S1024x1024 .bf16) (x : FVec Ideal S1x1024x1024 .f32)
    (md : FVec Ideal S1x1x1x1x1024 .f32) (b : Fin 1) (r d : Fin 1024) :
    k0_pay1 (F := Ideal) h w x md (ix3 b r d) = x (ix3 b r d) + md (ix5 0 0 0 0 d) * ∑ j : Fin 1024, h (ix2 r j) * w (ix2 j d) := by
  obtain rfl : b = 0 := Subsingleton.elim _ _
  pointwise [k0_pay1]

variable (m : (ℓ : Loc nD τ sig) → Buf (Elt Ideal) ℓ)

theorem idx0 : ∀ t : Fin cfg0.N,
    win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, t.val % 2, 0] ∧ win0_5.index t = ![0, t.val / 2, 2, 0, 0]
    ∧ win0_6.index t = ![0, 0] ∧ win0_7.index t = ![0, 0] ∧ win0_8.index t = ![0, 0] ∧ win0_9.index t = ![0, 0]
    ∧ win0_10.index t = ![t.val / 2, t.val % 2, 0] ∧ t.val / 2 < 8 :=
  (by decide +kernel : ∀ t : Fin grid0.N, _)

theorem lt0 (t : Fin cfg0.N) : t.val / 2 < 8 := (idx0 t).2.2.2.2.2.2.2.2.2.2.2

theorem emb0_10 (t : Fin cfg0.N) (b : Fin 1) (r d : Fin 1024) :
    ((cfg0.win 10).blk t).view.emb (ix3 b r d) = ix3 ⟨t.val / 2, lt0 t⟩ ⟨t.val % 2 * 1024 + r, by omega⟩ d := by
  blk_ext [idx0 t]

theorem read0_0 (c : Dev nD) (t : Fin cfg0.N) (b : Fin 1) (r : Fin 1024) (d : Fin 256) :
    (show FVec Ideal S1x1024x256 .bf16 from iblk m c 0 t) (ix3 b r d) =
      (show FVec Ideal S8x2048x256 .bf16 from V m c main_v4) (ix3 ⟨t.val / 2, lt0 t⟩ ⟨t.val % 2 * 1024 + r, by omega⟩ d) := by
  blk_ext [iblk, idx0 t]

theorem read0_1 (c : Dev nD) (t : Fin cfg0.N) (b : Fin 1) (r : Fin 1024) (d : Fin 256) :
    (show FVec Ideal S1x1024x256 .bf16 from iblk m c 1 t) (ix3 b r d) =
      (show FVec Ideal S8x2048x256 .bf16 from V m c main_v5) (ix3 ⟨t.val / 2, lt0 t⟩ ⟨t.val % 2 * 1024 + r, by omega⟩ d) := by
  blk_ext [iblk, idx0 t]

theorem read0_2 (c : Dev nD) (t : Fin cfg0.N) (b : Fin 1) (r : Fin 1024) (d : Fin 512) :
    (show FVec Ideal S1x1024x512 .bf16 from iblk m c 2 t) (ix3 b r d) =
      (show FVec Ideal S8x2048x512 .bf16 from V m c main_v6) (ix3 ⟨t.val / 2, lt0 t⟩ ⟨t.val % 2 * 1024 + r, by omega⟩ d) := by
  blk_ext [iblk, idx0 t]

theorem read0_3 (c : Dev nD) (t : Fin cfg0.N) (b : Fin 1) (r : Fin 1024) (d : Fin 3072) :
    (show FVec Ideal S1x1024x3072 .bf16 from X0_3 m c t) (ix3 b r d) =
      (show FVec Ideal S8x2048x5632 .bf16 from V m c main_v10)
        (ix3 ⟨t.val / 2, lt0 t⟩ ⟨t.val % 2 * 1024 + r, by omega⟩ ⟨d, by omega⟩) := by
  have hy : ∀ a, ((ix3 b r d : S1x1024x3072.Idx) a : ℕ) < (cfg0.win 3).xsize (cfg0.grid.coords t) a := fun a => by
    rw [xsize0_3 t a]
    exact ((ix3 b r d : S1x1024x3072.Idx) a).isLt
  refine ((cfg0.win 3).fill_xinj (cfg0.grid.coords t) dflt0_3 (iblk m c 3 t)
    (fun a => ⟨(ix3 b r d : S1x1024x3072.Idx) a, hy a⟩)).trans ?_
  blk_ext [iblk, idx0 t]

theorem read0_4 (c : Dev nD) (t : Fin cfg0.N) (b : Fin 1) (r : Fin 1024) (d : Fin 1024) :
    (show FVec Ideal S1x1024x1024 .f32 from iblk m c 4 t) (ix3 b r d) =
      (show FVec Ideal S8x2048x1024 .f32 from V m c main_arg4) (ix3 ⟨t.val / 2, lt0 t⟩ ⟨t.val % 2 * 1024 + r, by omega⟩ d) := by
  blk_ext [iblk, idx0 t]

theorem read0_5 (c : Dev nD) (t : Fin cfg0.N) (d : Fin 1024) :
    (show FVec Ideal S1x1x1x1x1024 .f32 from iblk m c 5 t) (ix5 0 0 0 0 d) =
      (show FVec Ideal S1x16x6x1x1024 .f32 from V m c main_v13) (ix5 0 ⟨t.val / 2, by have := lt0 t; omega⟩ 2 0 d) := by
  blk_ext [iblk, idx0 t]

theorem read0_6 (c : Dev nD) (t : Fin cfg0.N) (r : Fin 256) (d : Fin 1024) :
    (show FVec Ideal S256x1024 .bf16 from iblk m c 6 t) (ix2 r d) =
      (show FVec Ideal S256x1024 .bf16 from V m c main_v0) (ix2 r d) := by
  blk_ext [iblk, idx0 t]

theorem read0_7 (c : Dev nD) (t : Fin cfg0.N) (r : Fin 256) (d : Fin 1024) :
    (show FVec Ideal S256x1024 .bf16 from iblk m c 7 t) (ix2 r d) =
      (show FVec Ideal S256x1024 .bf16 from V m c main_v1) (ix2 r d) := by
  blk_ext [iblk, idx0 t]

theorem read0_8 (c : Dev nD) (t : Fin cfg0.N) (r : Fin 512) (d : Fin 1024) :
    (show FVec Ideal S512x1024 .bf16 from iblk m c 8 t) (ix2 r d) =
      (show FVec Ideal S512x1024 .bf16 from V m c main_v2) (ix2 r d) := by
  blk_ext [iblk, idx0 t]

theorem read0_9 (c : Dev nD) (t : Fin cfg0.N) (r : Fin 1024) (d : Fin 1024) :
    (show FVec Ideal S1024x1024 .bf16 from iblk m c 9 t) (ix2 r d) =
      (show FVec Ideal S1024x1024 .bf16 from V m c main_v3) (ix2 r d) := by
  blk_ext [iblk, idx0 t]

/-- Whole arrays: the residual stream plus the gated branches' sum through the output weight, scaled by the token's modulation. -/
def merged (a b : FVec Ideal S8x2048x256 .f32) (e : FVec Ideal S8x2048x512 .f32) (h : FVec Ideal S8x2048x5632 .f32)
    (x : FVec Ideal S8x2048x1024 .f32) (md : FVec Ideal S8x6144 .f32) (pa pb : FVec Ideal S256x1024 .f32)
    (pe : FVec Ideal S512x1024 .f32) (w : FVec Ideal S1024x1024 .f32) : FVec Ideal S8x2048x1024 .f32 := fun i =>
  x (ix3 (i 0) (i 1) (i 2)) + md (ix2 (i 0) ⟨2048 + (i 2 : ℕ), by have h : (i 2 : ℕ) < 1024 := (i 2).isLt; omega⟩)
    * ∑ j : Fin 1024, mixRow (fun k => h (ix3 (i 0) (i 1) ⟨2560 + k, by omega⟩)) (fun k => a (ix3 (i 0) (i 1) k))
        (fun k => b (ix3 (i 0) (i 1) k)) (fun k => e (ix3 (i 0) (i 1) k)) (fun k i => pa (ix2 k i)) (fun k i => pb (ix2 k i))
        (fun k i => pe (ix2 k i)) j * w (ix2 j (i 2))

theorem host13 (c : Dev nD) (b : Fin 8) (a : Fin 6) (d : Fin 1024) :
    (show FVec Ideal S1x16x6x1x1024 .f32 from V m c main_v13) (ix5 0 ⟨b, by omega⟩ a 0 d) =
      (show FVec Ideal S8x6144 .f32 from m ((c : Thread nD τ).loc main_arg5)) (ix2 b ⟨a * 1024 + d, by omega⟩) := by
  entry_read
  pointwise []

theorem host10 (c : Dev nD) (b : Fin 8) (r : Fin 2048) (d : Fin 3072) :
    (show FVec Ideal S8x2048x5632 .bf16 from V m c main_v10) (ix3 b r ⟨d, by omega⟩) =
      (show FVec Ideal S8x2048x5632 .f32 from m ((c : Thread nD τ).loc main_arg3)) (ix3 b r ⟨2560 + d, by omega⟩) := by
  entry_read
  pointwise []

theorem host4 (c : Dev nD) : (show FVec Ideal S8x2048x256 .bf16 from V m c main_v4) =
    (show FVec Ideal S8x2048x256 .f32 from m ((c : Thread nD τ).loc main_arg0)) := by
  entry_read
  rfl

theorem host5 (c : Dev nD) : (show FVec Ideal S8x2048x256 .bf16 from V m c main_v5) =
    (show FVec Ideal S8x2048x256 .f32 from m ((c : Thread nD τ).loc main_arg1)) := by
  entry_read
  rfl

theorem host6 (c : Dev nD) : (show FVec Ideal S8x2048x512 .bf16 from V m c main_v6) =
    (show FVec Ideal S8x2048x512 .f32 from m ((c : Thread nD τ).loc main_arg2)) := by
  entry_read
  rfl

theorem host0 (c : Dev nD) : (show FVec Ideal S256x1024 .bf16 from V m c main_v0) =
    (show FVec Ideal S256x1024 .f32 from m ((c : Thread nD τ).loc main_arg6)) := by
  entry_read
  rfl

theorem host1 (c : Dev nD) : (show FVec Ideal S256x1024 .bf16 from V m c main_v1) =
    (show FVec Ideal S256x1024 .f32 from m ((c : Thread nD τ).loc main_arg7)) := by
  entry_read
  rfl

theorem host2 (c : Dev nD) : (show FVec Ideal S512x1024 .bf16 from V m c main_v2) =
    (show FVec Ideal S512x1024 .f32 from m ((c : Thread nD τ).loc main_arg8)) := by
  entry_read
  rfl

theorem host3 (c : Dev nD) : (show FVec Ideal S1024x1024 .bf16 from V m c main_v3) =
    (show FVec Ideal S1024x1024 .f32 from m ((c : Thread nD τ).loc main_arg9)) := by
  entry_read
  rfl

theorem mixRow_congr {g g' : Fin 3072 → EReal} {a a' b b' : Fin 256 → EReal} {e e' : Fin 512 → EReal}
    {pa pa' pb pb' : Fin 256 → Fin 1024 → EReal} {pe pe' : Fin 512 → Fin 1024 → EReal} (hg : ∀ k, g k = g' k)
    (ha : ∀ k, a k = a' k) (hb : ∀ k, b k = b' k) (he : ∀ k, e k = e' k) (hpa : ∀ k i, pa k i = pa' k i)
    (hpb : ∀ k i, pb k i = pb' k i) (hpe : ∀ k i, pe k i = pe' k i) (j : Fin 1024) :
    mixRow g a b e pa pb pe j = mixRow g' a' b' e' pa' pb' pe' j := by
  obtain rfl : g = g' := funext hg
  obtain rfl : a = a' := funext ha
  obtain rfl : b = b' := funext hb
  obtain rfl : e = e' := funext he
  obtain rfl : pa = pa' := funext fun k => funext (hpa k)
  obtain rfl : pb = pb' := funext fun k => funext (hpb k)
  obtain rfl : pe = pe' := funext fun k => funext (hpe k)
  rfl

theorem final0 (c : Dev nD) : (dats m 0 c).arrAt 10 cfg0.N = merged (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  unfold outsAt0
  frame_out
  idx_vars y
  refine (pay1_at _ _ _ _ _ _ _).trans (Eq.trans ?_ (congrArg (merged (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)))
    (emb0_10 t _ _ _)).symm)
  refine congrArg₂ (· + ·) ((read0_4 m c t _ _ _).trans (congrFun (V_main_arg4 m c) _)) (congrArg₂ (· * ·)
    ((read0_5 m c t _).trans (host13 m c ⟨t.val / 2, lt0 t⟩ 2 _)) (Finset.sum_congr rfl fun j _ => congrArg₂ (· * ·) ?_
      ((read0_9 m c t _ _).trans (congrFun (host3 m c) _))))
  refine (pay2_at _ _ _ _ _ _ _ _ _).trans (mixRow_congr (fun k => ?_) (fun k => ?_) (fun k => ?_) (fun k => ?_) (fun k i => ?_)
    (fun k i => ?_) (fun k i => ?_) j)
  · exact (read0_3 m c t _ _ _).trans (host10 m c _ _ _)
  · exact (read0_0 m c t _ _ _).trans (congrFun (host4 m c) _)
  · exact (read0_1 m c t _ _ _).trans (congrFun (host5 m c) _)
  · exact (read0_2 m c t _ _ _).trans (congrFun (host6 m c) _)
  · exact (read0_6 m c t _ _).trans (congrFun (host0 m c) _)
  · exact (read0_7 m c t _ _).trans (congrFun (host1 m c) _)
  · exact (read0_8 m c t _ _).trans (congrFun (host2 m c) _)

end Cert.MergeIdeal.Value

end
-- ==== Proof.RefMerge.lean ====
module

public import proofs.«01_k».proof.Proof.Gen.RefMergeIdeal.Read
public import proofs.«01_k».proof.Proof.MergeRegion

@[expose] public section

set_option maxRecDepth 16384

noncomputable section

namespace Cert.RefMergeIdeal.Value

open Cert.RefMergeIdeal Cert.RefMergeIdeal.Read Idealize.ShloMosaic
open Cert.MergeIdeal.Value (mixRow merged)

variable (x0 x1 : FVec Ideal S8x2048x256 .f32) (x2 : FVec Ideal S8x2048x512 .f32) (x3 : FVec Ideal S8x2048x5632 .f32)
  (x4 : FVec Ideal S8x2048x1024 .f32) (x5 : FVec Ideal S8x6144 .f32) (x6 x7 : FVec Ideal S256x1024 .f32)
  (x8 : FVec Ideal S512x1024 .f32) (x9 : FVec Ideal S1024x1024 .f32)

theorem mix_at (b : Fin 8) (r : Fin 2048) (j : Fin 1024) :
    val_main_v29 (F := Ideal) x0 x1 x2 x3 x6 x7 x8 (ix3 b r j) = mixRow (fun k => x3 (ix3 b r ⟨2560 + k, by omega⟩))
      (fun k => x0 (ix3 b r k)) (fun k => x1 (ix3 b r k)) (fun k => x2 (ix3 b r k)) (fun k i => x6 (ix2 k i))
      (fun k i => x7 (ix2 k i)) (fun k i => x8 (ix2 k i)) j := by
  pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0]
  rfl

theorem out_at (b : Fin 8) (r : Fin 2048) (d : Fin 1024) :
    val_main_v33 (F := Ideal) x0 x1 x2 x3 x4 x5 x6 x7 x8 x9 (ix3 b r d) = x4 (ix3 b r d) + x5 (ix2 b ⟨2048 + d, by omega⟩)
      * ∑ j : Fin 1024, val_main_v29 (F := Ideal) x0 x1 x2 x3 x6 x7 x8 (ix3 b r j) * x9 (ix2 j d) := by
  pointwise [val_main_v33, val_main_v32, val_main_v31, val_main_v30, val_main_v3, val_main_v0]

theorem ref_eq : val_main_v33 (F := Ideal) x0 x1 x2 x3 x4 x5 x6 x7 x8 x9 = merged x0 x1 x2 x3 x4 x5 x6 x7 x8 x9 := by
  funext i
  idx_vars i
  refine (out_at x0 x1 x2 x3 x4 x5 x6 x7 x8 x9 _ _ _).trans ?_
  exact congrArg (_ + _ * ·) (Finset.sum_congr rfl fun j _ => congrArg (· * _) (mix_at x0 x1 x2 x3 x6 x7 x8 _ _ j))

end Cert.RefMergeIdeal.Value

end
-- ==== Proof.Algebraic23.lean ====
module

public import proofs.«01_k».proof.Defs
public import proofs.«01_k».proof.Proof.RefProj
public import proofs.«01_k».proof.Proof.RefMerge
public import proofs.«01_k».proof.Proof.Gen.RefProjectionIdeal
public import proofs.«01_k».proof.Proof.Gen.RefProjectionIdeal.Run
public import proofs.«01_k».proof.Proof.Gen.RefMergeIdeal
public import proofs.«01_k».proof.Proof.Gen.RefMergeIdeal.Run
public import Idealize.ShloMosaic.Lib.Claim

@[expose] public section

set_option maxRecDepth 16384

noncomputable section

namespace Cert.Proof

open Idealize.ShloMosaic Idealize.SL.Sem

/-- The in-projection and its reference leave the same array. -/
theorem algebraic_projection : Cert.algebraic_ProjectionIdeal_RefProjectionIdeal
    (hProjectionIdeal := Cert.ProjectionIdeal.Gen.facts) (hRefProjectionIdeal := Cert.RefProjectionIdeal.Gen.facts) := by
  pair_intro
  · run_from Cert.ProjectionIdeal.Gen.run_main m g
  · run_from Cert.RefProjectionIdeal.Value.run m' g'
    obtain ⟨h0, h1, h2, h3⟩ := hagree c
    rw [Cert.RefProjectionIdeal.Read.val_main_v34_eq, h0, h1, h2, h3]
    exact (Cert.RefProjectionIdeal.Value.ref_eq _ _ _ _).trans (Cert.ProjectionIdeal.Value.final0 m c).symm

/-- The merge of the branches into the residual stream and its reference leave the same array. -/
theorem algebraic_merge : Cert.algebraic_MergeIdeal_RefMergeIdeal
    (hMergeIdeal := Cert.MergeIdeal.Gen.facts) (hRefMergeIdeal := Cert.RefMergeIdeal.Gen.facts) := by
  pair_intro
  · run_from Cert.MergeIdeal.Gen.run_main m g
  · run_from Cert.RefMergeIdeal.Value.run m' g'
    rw [Cert.RefMergeIdeal.Read.val_main_v33_eq]
    exact (Cert.RefMergeIdeal.Value.ref_eq _ _ _ _ _ _ _ _ _ _).trans (Cert.MergeIdeal.Value.final0 m c).symm

end Cert.Proof

end
-- ==== Proof.FiniteInputs.lean ====
module

public import proofs.«01_k».proof.Defs
public import proofs.«01_k».proof.Proof.Gen.Pre_finite_inputs

@[expose] public section

set_option maxRecDepth 16384

noncomputable section

namespace Cert.Proof

open Idealize.ShloMosaic

/-! The preconditions, element by element: a value smaller in size than infinity is a real. -/

theorem real_of_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  rw [max_lt_iff] at hlt
  induction x with
  | bot => simp at hlt
  | top => simp at hlt
  | coe r => exact ⟨r, rfl⟩

section
open Cert.Pre_finite_inputs

variable (x0 : FVec Ideal S8x2048x5632 .f32) (x1 : FVec Ideal S8x256x5632 .f32) (x2 x3 : FVec Ideal S2x64 .f32)
  (x4 : FVec Ideal S4x64 .f32) (x5 : FVec Ideal S128 .f32)

theorem inputs_real0 (h : (fn (F := Ideal) x0 x1 x2 x3 x4 x5).1 = fun _ => 1#1) : ∃ X : S8x2048x5632.Idx → ℝ, ∀ i, x0 i = X i := by
  have h' : ∀ i, ∃ r : ℝ, x0 i = r := fun i => real_of_lt (congrFun h i)
  choose X hX using h'
  exact ⟨X, hX⟩

theorem inputs_real1 (h : (fn (F := Ideal) x0 x1 x2 x3 x4 x5).2.1 = fun _ => 1#1) : ∃ X : S8x256x5632.Idx → ℝ, ∀ i, x1 i = X i := by
  have h' : ∀ i, ∃ r : ℝ, x1 i = r := fun i => real_of_lt (congrFun h i)
  choose X hX using h'
  exact ⟨X, hX⟩

theorem inputs_real2 (h : (fn (F := Ideal) x0 x1 x2 x3 x4 x5).2.2.1 = fun _ => 1#1) : ∃ X : S2x64.Idx → ℝ, ∀ i, x2 i = X i := by
  have h' : ∀ i, ∃ r : ℝ, x2 i = r := fun i => real_of_lt (congrFun h i)
  choose X hX using h'
  exact ⟨X, hX⟩

theorem inputs_real3 (h : (fn (F := Ideal) x0 x1 x2 x3 x4 x5).2.2.2.1 = fun _ => 1#1) : ∃ X : S2x64.Idx → ℝ, ∀ i, x3 i = X i := by
  have h' : ∀ i, ∃ r : ℝ, x3 i = r := fun i => real_of_lt (congrFun h i)
  choose X hX using h'
  exact ⟨X, hX⟩

theorem inputs_real4 (h : (fn (F := Ideal) x0 x1 x2 x3 x4 x5).2.2.2.2 = fun _ => 1#1) : ∃ X : S4x64.Idx → ℝ, ∀ i, x4 i = X i := by
  have h' : ∀ i, ∃ r : ℝ, x4 i = r := fun i => real_of_lt (congrFun h i)
  choose X hX using h'
  exact ⟨X, hX⟩

end

end Cert.Proof

end
-- ==== Proof.AttRow.lean ====
module

public import proofs.«01_k».proof.Proof.Gen.KernelIdeal.Skeleton
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

/-! One query row of the differential attention, as the kernel computes it. -/

/-- The score of a query row against key `p`. -/
def score (q : Fin 128 → EReal) (k : Fin 2304 → Fin 128 → EReal) (p : Fin 2304) : EReal := ∑ e, q e * k p e

/-- The largest score of a query row. -/
def top (q : Fin 128 → EReal) (k : Fin 2304 → Fin 128 → EReal) : EReal :=
  Finset.fold max (Ideal.ofBits .f32 0xFF800000#32) (fun p => score q k p) Finset.univ

/-- The unnormalised weight of key `p`. -/
def wt (q : Fin 128 → EReal) (k : Fin 2304 → Fin 128 → EReal) (p : Fin 2304) : EReal :=
  FloatOps.exp2 (F := Ideal) (φ := .f32) (score q k p - top q k)

/-- The weighted sum of column `n` of the values. -/
def acc (q : Fin 128 → EReal) (k : Fin 2304 → Fin 128 → EReal) (v : Fin 2304 → Fin 256 → EReal) (n : Fin 256) : EReal :=
  ∑ p, wt q k p * v p n

/-- The first map's half of a query row. -/
def lo (q : Fin 128 → EReal) (e : Fin 128) : EReal := if (e : ℕ) < 64 then q e else 0

/-- The second map's half of a query row. -/
def hi (q : Fin 128 → EReal) (e : Fin 128) : EReal := if (e : ℕ) < 64 then 0 else q e

/-- The scalar the second map is weighted by. -/
def lamOf (l : Fin 4 → Fin 64 → EReal) : EReal :=
  Ideal.exp (∑ e, l 0 e * l 1 e) - Ideal.exp (∑ e, l 2 e * l 3 e) + Ideal.ofBits .f32 0x3E4CCCCD#32

/-- One map's attention: the weighted values over the total weight, the values' column 128 being one. -/
def att (q : Fin 128 → EReal) (k : Fin 2304 → Fin 128 → EReal) (v : Fin 2304 → Fin 256 → EReal) (d : Fin 128) : EReal :=
  Ideal.div (acc q k v ⟨d, by omega⟩) (acc q k v 128)

/-- The normalisation of a row that both programs end with. -/
def finish (o g : Fin 128 → EReal) (d : Fin 128) : EReal :=
  o d * Ideal.rsqrt (Ideal.div (∑ e, o e * o e) (Ideal.ofBits .f32 0x43000000#32) + Ideal.ofBits .f32 0x358637BD#32)
    * g d * Ideal.ofBits .f32 0x3F4CCCCD#32

/-- One row of the attention's result. -/
def attRow (q : Fin 128 → EReal) (k : Fin 2304 → Fin 128 → EReal) (v : Fin 2304 → Fin 256 → EReal)
    (l : Fin 4 → Fin 64 → EReal) (g : Fin 128 → EReal) (d : Fin 128) : EReal :=
  finish (fun d => att (lo q) k v d - lamOf l * att (hi q) k v d) g d

/-- Selecting by "lane below 64". -/
theorem select_lo (e : Fin 128) (a b : EReal) :
    Scalar.select (IntOp.cmpi CmpIPredicate.slt (BitVec.ofNat 32 (e : ℕ)) 64#32) a b = if (e : ℕ) < 64 then a else b := by
  have h : ∀ e : Fin 128, IntOp.cmpi CmpIPredicate.slt (BitVec.ofNat 32 (e : ℕ)) 64#32 = if (e : ℕ) < 64 then 1#1 else 0#1 := by
    decide +kernel
  rw [h e]; split <;> rfl

/-- Selecting by "lane from 64 on". -/
theorem select_hi (e : Fin 128) (a b : EReal) :
    Scalar.select (IntOp.cmpi CmpIPredicate.sge (BitVec.ofNat 32 (e : ℕ)) 64#32) a b = if (e : ℕ) < 64 then b else a := by
  have h : ∀ e : Fin 128, IntOp.cmpi CmpIPredicate.sge (BitVec.ofNat 32 (e : ℕ)) 64#32 = if (e : ℕ) < 64 then 0#1 else 1#1 := by
    decide +kernel
  rw [h e]; split <;> rfl

theorem pay5_at (x0 : FVec Ideal S1x512x128 .bf16) (x1 : FVec Ideal S1x2304x128 .bf16) (x2 : FVec Ideal S1x2304x256 .bf16)
    (r : Fin 512) (n : Fin 256) : k3_pay5 (F := Ideal) x0 x1 x2 (ix2 r n)
      = acc (lo fun e => x0 (ix3 0 r e)) (fun p e => x1 (ix3 0 p e)) (fun p e => x2 (ix3 0 p e)) n := by
  pointwise [k3_pay5, k3_pay2, k3_pay3]
  simp only [acc, wt, top, score, lo, select_lo, ite_mul, zero_mul]

theorem pay4_at (x3 : FVec Ideal S4x64 .f32) (r : Fin 1) (n : Fin 1) :
    k3_pay4 (F := Ideal) x3 (ix2 r n) = lamOf fun a e => x3 (ix2 a e) := by
  pointwise [k3_pay4]
  rfl

theorem pay8_at (x0 : FVec Ideal S1x512x128 .bf16) (x1 : FVec Ideal S1x2304x128 .bf16) (x2 : FVec Ideal S1x2304x256 .bf16)
    (x3 : FVec Ideal S4x64 .f32) (x4 : FVec Ideal S1x128 .f32) (b : Fin 1) (r : Fin 512) (d : Fin 128) :
    k3_pay1 (F := Ideal) (k3_pay8 (k3_pay2 x0) (iota .tc S512x128 32 [1] iota_S512x128_d1_w32) k3_pay3 (k3_pay4 x3)
        (k3_pay6 x0 x1 x2) (k3_pay7 x0 x1 x2) x1 x2 x4) (ix3 b r d)
      = attRow (fun e => x0 (ix3 0 r e)) (fun p e => x1 (ix3 0 p e)) (fun p e => x2 (ix3 0 p e))
          (fun a e => x3 (ix2 a e)) (fun e => x4 (ix2 0 e)) d := by
  pointwise [k3_pay1, k3_pay8, k3_pay2, k3_pay3, k3_pay6, k3_pay7]
  simp only [pay5_at, pay4_at, select_hi, attRow, finish, att]
  simp only [acc, wt, top, score, hi, ite_mul, zero_mul]

end Cert.KernelIdeal.Value

end
-- ==== Proof.PrepRow.lean ====
module

public import proofs.«01_k».proof.Proof.Gen.KernelIdeal.Skeleton
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

/-! One row of the queries or keys before the attention: each 64-lane group divided by its root mean square, then rotated. -/

/-- A row normalised group by group and scaled: the group means come from products with the table `bd`, of the squares and
    of what is left of them after rounding. -/
def normRow (x : Fin 512 → EReal) (bd : Fin 512 → Fin 512 → EReal) (g : Fin 512 → EReal) (w : Fin 512) : EReal :=
  x w * Ideal.rsqrt (∑ j, x j * x j * bd j w + ∑ j, (x j * x j - x j * x j) * bd j w + Ideal.ofBits .f32 0x358637BD#32) * g w

/-- A row rotated by position: every lane with its partner 16 lanes on in the lower half of its 32-lane group, and 16 lanes
    back in the upper half. -/
def ropeRow (y co si : Fin 512 → EReal) (w : Fin 512) : EReal :=
  y w * co w + (if (w : ℕ) % 32 < 16 then y ⟨((w : ℕ) + 512 - 496) % 512, Nat.mod_lt _ (by decide)⟩
    else y ⟨((w : ℕ) + 512 - 16) % 512, Nat.mod_lt _ (by decide)⟩) * si w

theorem pay2_at (x0 : FVec Ideal S1x1024x512 .bf16) (bd : FVec Ideal S512x512 .bf16) (g : FVec Ideal S1x512 .f32)
    (r : Fin 1024) (w : Fin 512) : k0_pay2 (F := Ideal) x0 bd bd g (ix2 r w)
      = normRow (fun e => x0 (ix3 0 r e)) (fun j w => bd (ix2 j w)) (fun e => g (ix2 0 e)) w := by
  pointwise [k0_pay2]
  unfold normRow
  rfl

/-- The lanes a rotation takes from above are those of the lower half of each 32-lane group. -/
theorem mask_at (w : Fin 512) (r : Fin 1024) :
    IntOp.cmpi CmpIPredicate.slt (k0_pay3 (ix2 r w)) 16#32 = if (w : ℕ) % 32 < 16 then 1#1 else 0#1 := by
  pointwise [k0_pay3]
  revert w
  decide +kernel

theorem select_half (w : Fin 512) (a b : EReal) :
    Scalar.select (if (w : ℕ) % 32 < 16 then 1#1 else 0#1 : BitVec 1) a b = if (w : ℕ) % 32 < 16 then a else b := by
  split <;> rfl

theorem pay4_row (y : FVec Ideal S1024x512 .f32) (co si : FVec Ideal S1024x512 .f32)
    (b : Fin 1) (r : Fin 1024) (w : Fin 512) : k0_pay4 (F := Ideal) y k0_pay3 co si (ix3 b r w)
      = ropeRow (fun e => y (ix2 r e)) (fun e => co (ix2 r e)) (fun e => si (ix2 r e)) w := by
  pointwise [k0_pay4]
  rw [mask_at, select_half]
  rfl

theorem pay1_row (y : FVec Ideal S1024x512 .f32) (g : FVec Ideal S1x512 .f32) (co si : FVec Ideal S1024x512 .f32)
    (b : Fin 1) (r : Fin 1024) (w : Fin 512) : k0_pay1 (F := Ideal) y g co si (ix3 b r w)
      = ropeRow (fun e => y (ix2 r e) * g (ix2 0 e)) (fun e => co (ix2 r e)) (fun e => si (ix2 r e)) w := by
  have h := mask_at w r
  pointwise [k0_pay3] at h
  pointwise [k0_pay1]
  rw [h, select_half]
  rfl

/-- What region 0 leaves of the queries, at a row. -/
theorem pay_q (x0 : FVec Ideal S1x1024x512 .bf16) (bd : FVec Ideal S512x512 .bf16) (g : FVec Ideal S1x512 .f32)
    (co si : FVec Ideal S1024x512 .f32) (b : Fin 1) (r : Fin 1024) (w : Fin 512) :
    k0_pay4 (F := Ideal) (k0_pay2 x0 bd bd g) k0_pay3 co si (ix3 b r w)
      = ropeRow (normRow (fun e => x0 (ix3 0 r e)) (fun j w => bd (ix2 j w)) (fun e => g (ix2 0 e)))
          (fun e => co (ix2 r e)) (fun e => si (ix2 r e)) w := by
  rw [pay4_row]; simp only [pay2_at]

/-- What region 0 leaves of the keys, at a row. -/
theorem pay_k (x0 : FVec Ideal S1x1024x512 .bf16) (bd : FVec Ideal S512x512 .bf16) (g : FVec Ideal S1x512 .f32)
    (co si : FVec Ideal S1024x512 .f32) (b : Fin 1) (r : Fin 1024) (w : Fin 512) :
    k0_pay1 (F := Ideal) (k0_pay5 x0 bd bd) (k0_pay6 g) co si (ix3 b r w)
      = ropeRow (normRow (fun e => x0 (ix3 0 r e)) (fun j w => bd (ix2 j w)) (fun e => g (ix2 0 e)))
          (fun e => co (ix2 r e)) (fun e => si (ix2 r e)) w := by
  rw [pay1_row]
  have h : ∀ e, k0_pay5 (F := Ideal) x0 bd bd (ix2 r e) * k0_pay6 (F := Ideal) g (ix2 0 e)
      = normRow (fun e => x0 (ix3 0 r e)) (fun j w => bd (ix2 j w)) (fun e => g (ix2 0 e)) e := by
    intro e
    pointwise [k0_pay5, k0_pay6]
    rfl
  simp only [h]

/-- What region 1 leaves of the keys, at a row. -/
theorem pay_kc (x0 : FVec Ideal S1x256x512 .bf16) (bd : FVec Ideal S512x512 .bf16) (g : FVec Ideal S1x512 .f32)
    (b : Fin 1) (r : Fin 256) (w : Fin 512) : k1_pay1 (F := Ideal) (k1_pay3 x0) (k1_pay5 x0) (k1_pay6 x0) (k1_pay7 bd) bd g (ix3 b r w)
      = normRow (fun e => x0 (ix3 0 r e)) (fun j w => bd (ix2 j w)) (fun e => g (ix2 0 e)) w := by
  pointwise [k1_pay1, k1_pay3, k1_pay4, k1_pay5, k1_pay6, k1_pay7]
  unfold normRow
  rfl

end Cert.KernelIdeal.Value

end
-- ==== Proof.AttMath.lean ====
module

public import proofs.«01_k».proof.Proof.AttRow
public import proofs.«01_k».proof.Proof.PrepRow

@[expose] public section

set_option maxRecDepth 16384

noncomputable section

namespace Cert.KernelIdeal.Value

open Idealize.ShloMosaic

/-! The mathematics of the attention over real numbers: the kernel's base-two weights over an unnormalised sum are the
    softmax of the scaled scores. -/

theorem bits_eighth : Ideal.ofBits .f32 0x3E000000#32 = ((1 / 8 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_64th : Ideal.ofBits .f32 0x3C800000#32 = ((1 / 64 : ℝ) : EReal) := by
  simp [Ideal.ofBits, Ideal.ieee, -EReal.coe_mul]; norm_num

theorem bits_32 : Ideal.ofBits .f32 0x42000000#32 = ((32 : ℝ) : EReal) := by
  simp [Ideal.ofBits, Ideal.ieee, -EReal.coe_mul]; norm_num

theorem bits_10000 : Ideal.ofBits .f32 0x461C4000#32 = ((10000 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_eps : ∃ ε : ℝ, 0 < ε ∧ Ideal.ofBits .f32 0x358637BD#32 = (ε : EReal) :=
  ⟨8796093 / 2 ^ 43, by positivity, by simp [Ideal.ofBits, Ideal.ieee, -EReal.coe_mul]; norm_num⟩

theorem bits_fifth : ∃ r : ℝ, Ideal.ofBits .f32 0x3E4CCCCD#32 = (r : EReal) :=
  ⟨_, by simp [Ideal.ofBits, Ideal.ieee, -EReal.coe_mul]; rfl⟩

theorem sum_coe {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- The largest of finitely many reals is a real. -/
theorem fold_coe (f : Fin 2304 → ℝ) : ∃ M : ℝ, Finset.fold max (⊥ : EReal) (fun p => (f p : EReal)) Finset.univ = M := by
  obtain ⟨i, -, hi⟩ := Finset.exists_mem_eq_sup (Finset.univ : Finset (Fin 2304)) Finset.univ_nonempty (fun p => (f p : EReal))
  exact ⟨f i, hi⟩

/-- The softmax of real scores. -/
def soft (a : Fin 2304 → ℝ) (p : Fin 2304) : ℝ := Real.exp (a p) / ∑ j, Real.exp (a j)

theorem sum_exp_pos (a : Fin 2304 → ℝ) : 0 < ∑ j, Real.exp (a j) :=
  Finset.sum_pos (fun _ _ => Real.exp_pos _) Finset.univ_nonempty

/-- A softmax may be computed from scores shifted by a constant. -/
theorem soft_shift (a : Fin 2304 → ℝ) (M : ℝ) (p : Fin 2304) :
    Real.exp (a p - M) * (1 / ∑ j, Real.exp (a j - M)) = soft a p := by
  unfold soft
  simp only [sub_eq_add_neg, Real.exp_add]
  rw [← Finset.sum_mul]
  have h1 := (sum_exp_pos a).ne'
  have h2 := (Real.exp_pos (-M)).ne'
  field_simp

/-- The reference's weights: the exponential of the score less the largest, over their sum. -/
theorem weight_real (s : Fin 2304 → EReal) (a : Fin 2304 → ℝ) (hs : ∀ p, s p = a p) (p : Fin 2304) :
    Ideal.div (Ideal.exp (s p - max ⊥ (Finset.fold max ⊥ (fun j => s j) Finset.univ)))
      (∑ i, Ideal.exp (s i - max ⊥ (Finset.fold max ⊥ (fun j => s j) Finset.univ))) = soft a p := by
  obtain rfl : s = fun p => (a p : EReal) := funext hs
  obtain ⟨M, hM⟩ := fold_coe a
  rw [hM, max_eq_right bot_le]
  have e : ∀ i, Ideal.exp ((a i : EReal) - (M : EReal)) = (Real.exp (a i - M) : ℝ) := fun i => by
    rw [← EReal.coe_sub, Ideal.exp_coe]
  simp only [e, sum_coe]
  rw [Ideal.div_coe (sum_exp_pos fun i => a i - M).ne', ← EReal.coe_mul, soft_shift]

/-- One map of the kernel's attention: base-two weights over scores scaled by 1/(8 log 2), divided by their sum. -/
theorem att_real (q : Fin 128 → EReal) (k : Fin 2304 → Fin 128 → EReal) (v : Fin 2304 → Fin 256 → EReal)
    (s : Fin 2304 → ℝ) (V : Fin 2304 → Fin 128 → ℝ) (hs : ∀ p, score q k p = ((1 / 8 / Real.log 2 * s p : ℝ) : EReal))
    (hv : ∀ p (d : Fin 128), v p ⟨d, by omega⟩ = V p d) (h1 : ∀ p, v p 128 = 1) (d : Fin 128) :
    att q k v d = ((∑ p, soft (fun p => s p * (1 / 8)) p * V p d : ℝ) : EReal) := by
  obtain ⟨M, hM⟩ := fold_coe fun p => 1 / 8 / Real.log 2 * s p
  have ht : top q k = M := by
    unfold top; rw [bits_bot]; simp only [hs]; exact hM
  have hw : ∀ p, wt q k p = ((Real.exp (s p * (1 / 8) - Real.log 2 * M) : ℝ) : EReal) := fun p => by
    unfold wt
    rw [hs, ht, ← EReal.coe_sub]
    refine (Ideal.exp2_coe _).trans (congrArg _ ?_)
    refine (Real.rpow_def_of_pos zero_lt_two _).trans (congrArg Real.exp ?_)
    have := (Real.log_pos (by norm_num : (1 : ℝ) < 2)).ne'
    field_simp
  unfold att acc
  simp only [hw, hv, h1, mul_one, ← EReal.coe_mul, sum_coe]
  rw [Ideal.div_coe (sum_exp_pos _).ne', ← EReal.coe_mul, Finset.sum_mul]
  refine congrArg _ (Finset.sum_congr rfl fun p _ => ?_)
  rw [mul_right_comm, soft_shift (fun p => s p * (1 / 8))]

/-- The score of the first half of a query row. -/
theorem score_lo (q : Fin 128 → EReal) (k : Fin 2304 → Fin 128 → EReal) (c : ℝ) (Q : Fin 2 → Fin 64 → ℝ)
    (K : Fin 2304 → Fin 2 → Fin 64 → ℝ) (hq : ∀ (i : Fin 2) (e : Fin 64), q ⟨i * 64 + e, by omega⟩ = ((c * Q i e : ℝ) : EReal))
    (hk : ∀ p (i : Fin 2) (e : Fin 64), k p ⟨i * 64 + e, by omega⟩ = K p i e) (p : Fin 2304) :
    score (lo q) k p = ((c * ∑ e, Q 0 e * K p 0 e : ℝ) : EReal) := by
  unfold score
  refine (Fin.sum_univ_tiles 2 64 rfl fun e => lo q e * k p e).trans ?_
  rw [Fin.sum_univ_two]
  have h0 : ∀ e : Fin 64, lo q ⟨(0 : Fin 2) * 64 + e, by omega⟩ * k p ⟨(0 : Fin 2) * 64 + e, by omega⟩
      = ((c * (Q 0 e * K p 0 e) : ℝ) : EReal) := fun e => by
    rw [hk p 0 e, show lo q ⟨(0 : Fin 2) * 64 + e, by omega⟩ = q ⟨(0 : Fin 2) * 64 + e, by omega⟩ from
      if_pos (by show (0 : ℕ) * 64 + (e : ℕ) < 64; omega), hq 0 e, ← EReal.coe_mul, mul_assoc]
  have h1 : ∀ e : Fin 64, lo q ⟨(1 : Fin 2) * 64 + e, by omega⟩ * k p ⟨(1 : Fin 2) * 64 + e, by omega⟩ = 0 := fun e => by
    rw [show lo q ⟨(1 : Fin 2) * 64 + e, by omega⟩ = 0 from
      if_neg (by show ¬ (1 : ℕ) * 64 + (e : ℕ) < 64; omega), zero_mul]
  refine (congrArg₂ (· + ·) (Finset.sum_congr rfl fun e _ => h0 e) (Finset.sum_congr rfl fun e _ => h1 e)).trans ?_
  rw [Finset.sum_const_zero, add_zero, sum_coe, Finset.mul_sum]

/-- The score of the second half of a query row. -/
theorem score_hi (q : Fin 128 → EReal) (k : Fin 2304 → Fin 128 → EReal) (c : ℝ) (Q : Fin 2 → Fin 64 → ℝ)
    (K : Fin 2304 → Fin 2 → Fin 64 → ℝ) (hq : ∀ (i : Fin 2) (e : Fin 64), q ⟨i * 64 + e, by omega⟩ = ((c * Q i e : ℝ) : EReal))
    (hk : ∀ p (i : Fin 2) (e : Fin 64), k p ⟨i * 64 + e, by omega⟩ = K p i e) (p : Fin 2304) :
    score (hi q) k p = ((c * ∑ e, Q 1 e * K p 1 e : ℝ) : EReal) := by
  unfold score
  refine (Fin.sum_univ_tiles 2 64 rfl fun e => hi q e * k p e).trans ?_
  rw [Fin.sum_univ_two]
  have h1 : ∀ e : Fin 64, hi q ⟨(1 : Fin 2) * 64 + e, by omega⟩ * k p ⟨(1 : Fin 2) * 64 + e, by omega⟩
      = ((c * (Q 1 e * K p 1 e) : ℝ) : EReal) := fun e => by
    rw [hk p 1 e, show hi q ⟨(1 : Fin 2) * 64 + e, by omega⟩ = q ⟨(1 : Fin 2) * 64 + e, by omega⟩ from
      if_neg (by show ¬ (1 : ℕ) * 64 + (e : ℕ) < 64; omega), hq 1 e, ← EReal.coe_mul, mul_assoc]
  have h0 : ∀ e : Fin 64, hi q ⟨(0 : Fin 2) * 64 + e, by omega⟩ * k p ⟨(0 : Fin 2) * 64 + e, by omega⟩ = 0 := fun e => by
    rw [show hi q ⟨(0 : Fin 2) * 64 + e, by omega⟩ = 0 from
      if_pos (by show (0 : ℕ) * 64 + (e : ℕ) < 64; omega), zero_mul]
  refine (congrArg₂ (· + ·) (Finset.sum_congr rfl fun e _ => h0 e) (Finset.sum_congr rfl fun e _ => h1 e)).trans ?_
  rw [Finset.sum_const_zero, zero_add, sum_coe, Finset.mul_sum]

/-- The scalar of the second map is a real. -/
theorem lamOf_real (l : Fin 4 → Fin 64 → EReal) (L : Fin 4 → Fin 64 → ℝ) (h : ∀ a e, l a e = L a e) : ∃ r : ℝ, lamOf l = r := by
  obtain ⟨t, ht⟩ := bits_fifth
  unfold lamOf
  simp only [h, ht, ← EReal.coe_mul, sum_coe, Ideal.exp_coe, ← EReal.coe_sub, ← EReal.coe_add]
  exact ⟨_, rfl⟩

/-- The difference of the two maps: the kernel weights the values by each map and subtracts, the reference subtracts the
    maps and weights the values. -/
theorem attRow_real (q : Fin 128 → EReal) (k : Fin 2304 → Fin 128 → EReal) (v : Fin 2304 → Fin 256 → EReal)
    (l : Fin 4 → Fin 64 → EReal) (g : Fin 128 → EReal) (Q : Fin 2 → Fin 64 → ℝ) (K : Fin 2304 → Fin 2 → Fin 64 → ℝ)
    (V : Fin 2304 → Fin 128 → ℝ) (L : Fin 4 → Fin 64 → ℝ)
    (hq : ∀ (i : Fin 2) (e : Fin 64), q ⟨i * 64 + e, by omega⟩ = ((1 / 8 / Real.log 2 * Q i e : ℝ) : EReal))
    (hk : ∀ p (i : Fin 2) (e : Fin 64), k p ⟨i * 64 + e, by omega⟩ = K p i e)
    (hv : ∀ p (d : Fin 128), v p ⟨d, by omega⟩ = V p d) (h1 : ∀ p, v p 128 = 1) (hl : ∀ a e, l a e = L a e) (d : Fin 128) :
    attRow q k v l g d = finish (fun d => ∑ p, (((soft (fun p => (∑ e, Q 0 e * K p 0 e) * (1 / 8)) p : ℝ) : EReal)
      - lamOf l * ((soft (fun p => (∑ e, Q 1 e * K p 1 e) * (1 / 8)) p : ℝ) : EReal)) * (V p d : EReal)) g d := by
  unfold attRow
  obtain ⟨r, hr⟩ := lamOf_real l L hl
  refine congrArg (finish · g d) (funext fun d => ?_)
  rw [att_real (lo q) k v _ V (score_lo q k _ Q K hq hk) hv h1, att_real (hi q) k v _ V (score_hi q k _ Q K hq hk) hv h1, hr]
  simp only [← EReal.coe_mul, ← EReal.coe_sub, sum_coe]
  refine congrArg _ ?_
  rw [Finset.mul_sum, ← Finset.sum_sub_distrib]
  exact Finset.sum_congr rfl fun p _ => by ring

/-- The normalisation every head's row begins with, as the reference writes it. -/
def rms (x : Fin 64 → EReal) : EReal :=
  Ideal.rsqrt (Ideal.div (∑ e, x e * x e) (Ideal.ofBits .f32 0x42800000#32) + Ideal.ofBits .f32 0x358637BD#32)

theorem rms_real (x : Fin 64 → EReal) (X : Fin 64 → ℝ) (h : ∀ e, x e = X e) : ∃ r : ℝ, rms x = r := by
  obtain ⟨ε, hε, e⟩ := bits_eps
  have hp : 0 < (∑ e, X e * X e) * (1 / 64) + ε :=
    add_pos_of_nonneg_of_pos (mul_nonneg (Finset.sum_nonneg fun i _ => mul_self_nonneg _) (by norm_num)) hε
  unfold rms
  simp only [h, e, bits_64, ← EReal.coe_mul, sum_coe]
  rw [Ideal.div_coe (by norm_num), ← EReal.coe_mul, ← EReal.coe_add, Ideal.rsqrt_coe, if_neg hp.not_gt, if_neg hp.ne']
  exact ⟨_, rfl⟩

/-- The kernel's normalisation, by a product with the block-diagonal matrix of 1/64, is the reference's. -/
theorem normRow_eq (x : Fin 512 → EReal) (X : Fin 512 → ℝ) (hx : ∀ e, x e = X e) (bd : Fin 512 → Fin 512 → EReal)
    (hb : ∀ j w : Fin 512, bd j w = if (j : ℕ) / 64 = (w : ℕ) / 64 then Ideal.ofBits .f32 0x3C800000#32 else 0)
    (g : Fin 512 → EReal) (w : Fin 512) :
    normRow x bd g w = x w * rms (fun e => x ⟨(w : ℕ) / 64 * 64 + e, by omega⟩) * g w := by
  unfold normRow rms
  refine congrArg (fun y : EReal => x w * Ideal.rsqrt (y + Ideal.ofBits .f32 0x358637BD#32) * g w) ?_
  have hB : ∀ j, bd j w = (((if (j : ℕ) / 64 = (w : ℕ) / 64 then 1 / 64 else 0) : ℝ) : EReal) := fun j => by
    rw [hb, bits_64th]; split <;> simp
  simp only [hx, hB, bits_64, ← EReal.coe_mul, ← EReal.coe_sub, sum_coe, sub_self, zero_mul, Finset.sum_const_zero]
  rw [Ideal.div_coe (by norm_num), ← EReal.coe_mul, ← EReal.coe_add, add_zero]
  refine congrArg _ ?_
  refine (Fin.sum_univ_tiles 8 64 rfl fun j : Fin 512 => X j * X j * (if (j : ℕ) / 64 = (w : ℕ) / 64 then 1 / 64 else 0)).trans ?_
  rw [Finset.sum_eq_single (⟨(w : ℕ) / 64, by omega⟩ : Fin 8), Finset.sum_mul]
  · refine Finset.sum_congr rfl fun e _ => ?_
    rw [if_pos (by show ((w : ℕ) / 64 * 64 + (e : ℕ)) / 64 = _; omega)]
  · intro j _ hj
    refine Finset.sum_eq_zero fun e _ => ?_
    rw [if_neg, mul_zero]
    show ¬ ((j : ℕ) * 64 + (e : ℕ)) / 64 = (w : ℕ) / 64
    intro h
    exact hj (Fin.ext (by show (j : ℕ) = (w : ℕ) / 64; omega))
  · intro h; exact absurd (Finset.mem_univ _) h

/-- One frequency of the rotation. -/
def freq (f : ℕ) : EReal :=
  Ideal.pow (Ideal.ofBits .f32 0x461C4000#32) (Ideal.div (-(Ideal.ofBits .f32 0x40000000#32
    * FloatOps.sitofp (F := Ideal) .f32 (BitVec.ofNat 32 f))) (Ideal.ofBits .f32 0x42000000#32))

/-- The angle of a token along one of the two axes of the 64-wide grid of tokens. -/
def angle (l : ℕ) (j : ℕ) (f : ℕ) : EReal :=
  if j < 1 then FloatOps.sitofp (F := Ideal) .f32 (BitVec.ofNat 32 (l / 64)) * freq f
  else FloatOps.sitofp (F := Ideal) .f32 (BitVec.ofNat 32 (l % 64)) * freq f

theorem sitofp_real (b : BitVec 32) : FloatOps.sitofp (F := Ideal) .f32 b = ((b.toInt : ℝ) : EReal) := rfl

theorem freq_real (f : ℕ) : ∃ r : ℝ, freq f = r := by
  unfold freq
  rw [bits_10000, bits_two, bits_32, sitofp_real, ← EReal.coe_mul, ← EReal.coe_neg, Ideal.div_coe (by norm_num), ← EReal.coe_mul,
    Ideal.pow_coe_coe]
  exact ⟨_, rfl⟩

theorem angle_real (l j f : ℕ) : ∃ r : ℝ, angle l j f = r := by
  obtain ⟨t, ht⟩ := freq_real f
  unfold angle
  simp only [ht, sitofp_real, ← EReal.coe_mul]
  split_ifs <;> exact ⟨_, rfl⟩

/-- The rotation of one head's row. -/
def turn (y : Fin 64 → EReal) (a : Fin 2 → Fin 16 → EReal) (e : Fin 64) : EReal :=
  if (e : ℕ) / 16 % 2 < 1 then
    y ⟨e / 32 * 32 + e % 16, by omega⟩ * Ideal.cos (a ⟨e / 32, by omega⟩ ⟨e % 16, by omega⟩)
      - y ⟨e / 32 * 32 + 16 + e % 16, by omega⟩ * Ideal.sin (a ⟨e / 32, by omega⟩ ⟨e % 16, by omega⟩)
  else
    y ⟨e / 32 * 32 + 16 + e % 16, by omega⟩ * Ideal.cos (a ⟨e / 32, by omega⟩ ⟨e % 16, by omega⟩)
      + y ⟨e / 32 * 32 + e % 16, by omega⟩ * Ideal.sin (a ⟨e / 32, by omega⟩ ⟨e % 16, by omega⟩)

/-- The same rotation of reals. -/
def turnR (y : Fin 64 → ℝ) (a : Fin 2 → Fin 16 → ℝ) (e : Fin 64) : ℝ :=
  if (e : ℕ) / 16 % 2 < 1 then
    y ⟨e / 32 * 32 + e % 16, by omega⟩ * Real.cos (a ⟨e / 32, by omega⟩ ⟨e % 16, by omega⟩)
      - y ⟨e / 32 * 32 + 16 + e % 16, by omega⟩ * Real.sin (a ⟨e / 32, by omega⟩ ⟨e % 16, by omega⟩)
  else
    y ⟨e / 32 * 32 + 16 + e % 16, by omega⟩ * Real.cos (a ⟨e / 32, by omega⟩ ⟨e % 16, by omega⟩)
      + y ⟨e / 32 * 32 + e % 16, by omega⟩ * Real.sin (a ⟨e / 32, by omega⟩ ⟨e % 16, by omega⟩)

theorem turn_real (y : Fin 64 → EReal) (a : Fin 2 → Fin 16 → EReal) (Y : Fin 64 → ℝ) (A : Fin 2 → Fin 16 → ℝ) (hy : ∀ e, y e = Y e)
    (ha : ∀ j f, a j f = A j f) (e : Fin 64) : turn y a e = turnR Y A e := by
  unfold turn turnR
  simp only [hy, ha, Ideal.cos_coe, Ideal.sin_coe, ← EReal.coe_mul, ← EReal.coe_sub, ← EReal.coe_add]
  split_ifs <;> rfl

/-- The kernel's rotation of a 512-wide row, on the 64 lanes of one head's half. -/
theorem rope_turn (y co si : Fin 512 → EReal) (o : ℕ) (ho : o + 64 ≤ 512) (h64 : o % 64 = 0) (Y : Fin 64 → ℝ)
    (A : Fin 2 → Fin 16 → ℝ) (s : ℝ) (hy : ∀ e : Fin 64, y ⟨o + e, by omega⟩ = ((s * Y e : ℝ) : EReal))
    (hc : ∀ e : Fin 64, co ⟨o + e, by omega⟩ = Ideal.cos (A ⟨e / 32, by omega⟩ ⟨e % 16, by omega⟩))
    (hs : ∀ e : Fin 64, si ⟨o + e, by omega⟩ = if (e : ℕ) / 16 % 2 < 1 then -Ideal.sin (A ⟨e / 32, by omega⟩ ⟨e % 16, by omega⟩)
      else Ideal.sin (A ⟨e / 32, by omega⟩ ⟨e % 16, by omega⟩)) (e : Fin 64) :
    ropeRow y co si ⟨o + e, by omega⟩ = ((s * turnR Y A e : ℝ) : EReal) := by
  unfold ropeRow turnR
  rw [hc, hs, hy]
  by_cases h : (e : ℕ) / 16 % 2 < 1
  · rw [if_pos (show (o + (e : ℕ)) % 32 < 16 by omega), if_pos h, if_pos h]
    rw [show (⟨(o + (e : ℕ) + 512 - 496) % 512, Nat.mod_lt _ (by decide)⟩ : Fin 512)
        = ⟨o + (⟨(e : ℕ) / 32 * 32 + 16 + e % 16, by omega⟩ : Fin 64), by show o + ((e : ℕ) / 32 * 32 + 16 + e % 16) < 512; omega⟩ from
      Fin.ext (by show (o + (e : ℕ) + 512 - 496) % 512 = o + ((e : ℕ) / 32 * 32 + 16 + e % 16); omega), hy]
    rw [show (⟨(e : ℕ) / 32 * 32 + e % 16, by omega⟩ : Fin 64) = e from Fin.ext (by show (e : ℕ) / 32 * 32 + e % 16 = e; omega)]
    simp only [Ideal.cos_coe, Ideal.sin_coe, ← EReal.coe_neg, ← EReal.coe_mul, ← EReal.coe_add]
    exact congrArg _ (by ring)
  · rw [if_neg (show ¬ (o + (e : ℕ)) % 32 < 16 by omega), if_neg h, if_neg h]
    rw [show (⟨(o + (e : ℕ) + 512 - 16) % 512, Nat.mod_lt _ (by decide)⟩ : Fin 512)
        = ⟨o + (⟨(e : ℕ) / 32 * 32 + e % 16, by omega⟩ : Fin 64), by show o + ((e : ℕ) / 32 * 32 + e % 16) < 512; omega⟩ from
      Fin.ext (by show (o + (e : ℕ) + 512 - 16) % 512 = o + ((e : ℕ) / 32 * 32 + e % 16); omega), hy]
    rw [show (⟨(e : ℕ) / 32 * 32 + 16 + e % 16, by omega⟩ : Fin 64) = e from
      Fin.ext (by show (e : ℕ) / 32 * 32 + 16 + e % 16 = e; omega)]
    simp only [Ideal.cos_coe, Ideal.sin_coe, ← EReal.coe_mul, ← EReal.coe_add]
    exact congrArg _ (by ring)

/-- The kernel's normalisation of one head's half is the reference's, and a row of reals. -/
theorem head_norm (x : Fin 512 → EReal) (X : Fin 512 → ℝ) (hx : ∀ e, x e = X e) (bd : Fin 512 → Fin 512 → EReal)
    (hb : ∀ j w : Fin 512, bd j w = if (j : ℕ) / 64 = (w : ℕ) / 64 then Ideal.ofBits .f32 0x3C800000#32 else 0)
    (g : Fin 512 → EReal) (o : ℕ) (ho : o + 64 ≤ 512) (h64 : o % 64 = 0) (s : ℝ) (g' : Fin 64 → EReal) (G : Fin 64 → ℝ)
    (hg : ∀ e : Fin 64, g ⟨o + e, by omega⟩ = g' e * (s : EReal)) (hG : ∀ e, g' e = G e) :
    ∃ τ : Fin 64 → ℝ, (∀ e : Fin 64, normRow x bd g ⟨o + e, by omega⟩ = ((s * τ e : ℝ) : EReal))
      ∧ ∀ e : Fin 64, x ⟨o + e, by omega⟩ * rms (fun e => x ⟨o + e, by omega⟩) * g' e = τ e := by
  obtain ⟨r, hr⟩ := rms_real (fun e => x ⟨o + e, by omega⟩) (fun e => X ⟨o + e, by omega⟩) fun e => hx _
  refine ⟨fun e => X ⟨o + e, by omega⟩ * r * G e, fun e => ?_, fun e => ?_⟩
  · have h : rms (fun a : Fin 64 => x ⟨((⟨o + e, by omega⟩ : Fin 512) : ℕ) / 64 * 64 + a, by omega⟩) = r :=
      (congrArg rms (funext fun a => congrArg x (Fin.ext (by
        show (o + (e : ℕ)) / 64 * 64 + (a : ℕ) = o + a; omega)))).trans hr
    rw [normRow_eq x X hx bd hb, hg, hG, h, hx]
    simp only [← EReal.coe_mul]
    exact congrArg _ (by ring)
  · rw [hr, hx, hG, ← EReal.coe_mul, ← EReal.coe_mul]

/-- The kernel's normalisation and rotation of one head's half is the reference's, and a row of reals. -/
theorem head_turn (x : Fin 512 → EReal) (X : Fin 512 → ℝ) (hx : ∀ e, x e = X e) (bd : Fin 512 → Fin 512 → EReal)
    (hb : ∀ j w : Fin 512, bd j w = if (j : ℕ) / 64 = (w : ℕ) / 64 then Ideal.ofBits .f32 0x3C800000#32 else 0)
    (g : Fin 512 → EReal) (o : ℕ) (ho : o + 64 ≤ 512) (h64 : o % 64 = 0) (s : ℝ) (g' : Fin 64 → EReal) (G : Fin 64 → ℝ)
    (hg : ∀ e : Fin 64, g ⟨o + e, by omega⟩ = g' e * (s : EReal)) (hG : ∀ e, g' e = G e) (co si : Fin 512 → EReal) (l : ℕ)
    (hc : ∀ w : Fin 512, co w = Ideal.cos (angle l (w % 64 / 32) (w % 64 % 16)))
    (hs : ∀ w : Fin 512, si w = if (w : ℕ) % 64 / 16 % 2 < 1 then -Ideal.sin (angle l (w % 64 / 32) (w % 64 % 16))
      else Ideal.sin (angle l (w % 64 / 32) (w % 64 % 16))) :
    ∃ τ : Fin 64 → ℝ, (∀ e : Fin 64, ropeRow (normRow x bd g) co si ⟨o + e, by omega⟩ = ((s * τ e : ℝ) : EReal))
      ∧ ∀ e : Fin 64, turn (fun e => x ⟨o + e, by omega⟩ * rms (fun e => x ⟨o + e, by omega⟩) * g' e)
          (fun j f => angle l j f) e = τ e := by
  obtain ⟨Y, h1, h2⟩ := head_norm x X hx bd hb g o ho h64 s g' G hg hG
  choose A hA using angle_real l
  refine ⟨turnR Y fun j f => A j f, ?_, turn_real _ _ Y (fun j f => A j f) h2 fun j f => hA j f⟩
  refine rope_turn _ co si o ho h64 Y (fun j f => A j f) s h1 (fun e => ?_) fun e => ?_
  · rw [hc, ← hA]
    exact congrArg Ideal.cos (congrArg₂ (angle l) (by show (o + (e : ℕ)) % 64 / 32 = (e : ℕ) / 32; omega)
      (by show (o + (e : ℕ)) % 64 % 16 = (e : ℕ) % 16; omega))
  · rw [hs, ← hA]
    have a1 : (o + (e : ℕ)) % 64 / 32 = (e : ℕ) / 32 := by omega
    have a2 : (o + (e : ℕ)) % 64 % 16 = (e : ℕ) % 16 := by omega
    have a3 : (o + (e : ℕ)) % 64 / 16 % 2 = (e : ℕ) / 16 % 2 := by omega
    show (if (o + (e : ℕ)) % 64 / 16 % 2 < 1 then _ else _) = _
    rw [a1, a2, a3]

end Cert.KernelIdeal.Value

end
-- ==== Proof.AttHost.lean ====
module

public import proofs.«01_k».proof.Proof.Gen.KernelIdeal.Frame
public import proofs.«01_k».proof.Proof.AttMath
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-! What the host computes before the first grid: the projected tokens in the order the grids read them, the rotation's
    tables, the block-diagonal table of group means and the repeated scales. -/

variable (m : (ℓ : Loc nD τ sig) → Buf (Elt Ideal) ℓ) (ρ : Dev nD → PrngReg) (c : Dev nD)

/-- Columns 3072 and on of the tokens' array are the first 2560 columns of the projection. -/
theorem v3_at (b : Fin 8) (r : Fin 2048) (d : Fin 2560) :
    (show FVec Ideal S8x2048x5632 .bf16 from V3 m ρ c main_v3) (ix3 b r ⟨3072 + d, by omega⟩)
      = (show FVec Ideal S8x2048x5632 .f32 from m ((c : Thread nD τ).loc main_arg0)) (ix3 b r ⟨d, by omega⟩) := by
  rw [show V3 m ρ c main_v3 = W1 m ρ c (Proc.devRef .tc main_v3) from
    (W3_of m ρ c main_v3 (by decide +kernel)).trans (W2_of m ρ c main_v3 (by decide +kernel))]
  unfold W1
  entry_read
  pointwise []

/-- Columns 3072 and on of the context's array are the first 2560 columns of its projection. -/
theorem v7_at (b : Fin 8) (r : Fin 256) (d : Fin 2560) :
    (show FVec Ideal S8x256x5632 .bf16 from V3 m ρ c main_v7) (ix3 b r ⟨3072 + d, by omega⟩)
      = (show FVec Ideal S8x256x5632 .f32 from m ((c : Thread nD τ).loc main_arg1)) (ix3 b r ⟨d, by omega⟩) := by
  rw [show V3 m ρ c main_v7 = W1 m ρ c (Proc.devRef .tc main_v7) from
    (W3_of m ρ c main_v7 (by decide +kernel)).trans (W2_of m ρ c main_v7 (by decide +kernel))]
  unfold W1
  entry_read
  pointwise []

/-- The scale of the queries, times 1/(8 log 2). -/
theorem v75_at (j : Fin 512) : (show FVec Ideal S1x512 .f32 from V3 m ρ c main_v75) (ix2 0 j)
    = (show FVec Ideal S2x64 .f32 from m ((c : Thread nD τ).loc main_arg2)) (ix2 ⟨j % 128 / 64, by omega⟩ ⟨j % 128 % 64, by omega⟩)
      * Ideal.div (Ideal.ofBits .f32 0x3E000000#32) (Ideal.log (Ideal.ofBits .f32 0x40000000#32)) := by
  rw [show V3 m ρ c main_v75 = StableHlo.after hostOps0_2 (W2 m ρ c) (Proc.devRef .tc main_v75) from rfl]
  entry_read
  pointwise []

/-- The scale of the keys. -/
theorem v79_at (j : Fin 512) : (show FVec Ideal S1x512 .f32 from V3 m ρ c main_v79) (ix2 0 j)
    = (show FVec Ideal S2x64 .f32 from m ((c : Thread nD τ).loc main_arg3)) (ix2 ⟨j % 128 / 64, by omega⟩ ⟨j % 128 % 64, by omega⟩) := by
  rw [show V3 m ρ c main_v79 = StableHlo.after hostOps0_2 (W2 m ρ c) (Proc.devRef .tc main_v79) from rfl]
  entry_read
  pointwise []

/-- The scale of the results. -/
theorem v80_at (j : Fin 128) : (show FVec Ideal S1x128 .f32 from V3 m ρ c main_v80) (ix2 0 j)
    = (show FVec Ideal S128 .f32 from m ((c : Thread nD τ).loc main_arg5)) (ix1 j) := by
  rw [show V3 m ρ c main_v80 = StableHlo.after hostOps0_2 (W2 m ρ c) (Proc.devRef .tc main_v80) from rfl]
  entry_read
  pointwise []

/-- The table of cosines. -/
theorem v63_at (l : Fin 2048) (j : Fin 512) : (show FVec Ideal S2048x512 .f32 from V3 m ρ c main_v63) (ix2 l j)
    = Ideal.cos (angle l (j % 64 / 32) (j % 64 % 16)) := by
  rw [show V3 m ρ c main_v63 = StableHlo.after hostOps0_2 (W2 m ρ c) (Proc.devRef .tc main_v63) from rfl]
  entry_read
  pointwise []
  unfold angle freq
  split_ifs <;> rfl

/-- The table of sines, negative for the lower lanes of a pair. -/
theorem v67_at (l : Fin 2048) (j : Fin 512) : (show FVec Ideal S2048x512 .f32 from V3 m ρ c main_v67) (ix2 l j)
    = if (j : ℕ) % 64 / 16 % 2 < 1 then -Ideal.sin (angle l (j % 64 / 32) (j % 64 % 16))
      else Ideal.sin (angle l (j % 64 / 32) (j % 64 % 16)) := by
  rw [show V3 m ρ c main_v67 = StableHlo.after hostOps0_2 (W2 m ρ c) (Proc.devRef .tc main_v67) from rfl]
  entry_read
  pointwise []
  unfold angle freq
  split_ifs <;> rfl

theorem shift_at : ∀ i : Fin 512, IntOp.shrsi ArithUnit.host (BitVec.ofNat 32 i) 6#32 = BitVec.ofNat 32 ((i : ℕ) / 64) := by
  decide +kernel

theorem same_at : ∀ a b : Fin 8, IntOp.cmpi CmpIPredicate.eq (BitVec.ofNat 32 a) (BitVec.ofNat 32 b) = if a = b then 1#1 else 0#1 := by
  decide +kernel

/-- The block-diagonal table of group means. -/
theorem v18_at (i j : Fin 512) : (show FVec Ideal S512x512 .bf16 from V3 m ρ c main_v18) (ix2 i j)
    = if (i : ℕ) / 64 = (j : ℕ) / 64 then Ideal.ofBits .f32 0x3C800000#32 else 0 := by
  rw [show V3 m ρ c main_v18 = StableHlo.after hostOps0_2 (W2 m ρ c) (Proc.devRef .tc main_v18) from rfl]
  entry_read
  simp only [StableHlo.TRef.ofBuf_toBuf]
  simp only [StableHlo.TRef.toBuf, StableHlo.TRef.ofBuf, cast_eq]
  pointwise []
  rw [shift_at, shift_at, same_at ⟨(i : ℕ) / 64, by omega⟩ ⟨(j : ℕ) / 64, by omega⟩]
  by_cases h : (i : ℕ) / 64 = (j : ℕ) / 64
  · rw [if_pos (Fin.ext h), if_pos h]; rfl
  · rw [if_neg fun h' => h (congrArg Fin.val h'), if_neg h]; rfl

end Cert.KernelIdeal.Value

end
-- ==== Proof.AttRegion.lean ====
module

public import proofs.«01_k».proof.Proof.Gen.KernelIdeal.Frame
public import proofs.«01_k».proof.Proof.AttRow

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The attention of whole arrays: head `n` of the result is row-wise attention over the head's 128 columns of the queries
    and keys and its 256 columns of the values. -/
def attention (q : FVec Ideal S8x2048x512 .bf16) (k : FVec Ideal S8x2304x512 .bf16) (v : FVec Ideal S8x2304x1024 .bf16)
    (l : FVec Ideal S4x64 .f32) (g : FVec Ideal S1x128 .f32) : FVec Ideal S8x2048x512 .bf16 := fun i =>
  attRow (fun e => q (ix3 (i 0) (i 1) ⟨(i 2 : ℕ) / 128 * 128 + e, by have := (i 2).isLt; simp at this; omega⟩))
    (fun p e => k (ix3 (i 0) p ⟨(i 2 : ℕ) / 128 * 128 + e, by have := (i 2).isLt; simp at this; omega⟩))
    (fun p e => v (ix3 (i 0) p ⟨(i 2 : ℕ) / 128 * 256 + e, by have := (i 2).isLt; simp at this; omega⟩))
    (fun a e => l (ix2 a e)) (fun e => g (ix2 0 e)) ⟨(i 2 : ℕ) % 128, by omega⟩

variable (V : (c : Dev nD) → (b : Ref sig .tc) → Buf (Elt Ideal) ((c : Thread nD τ).loc b))

theorem idx3 : ∀ t : Fin cfg3.N,
    win3_0.index t = ![t.val / 16, t.val % 4, t.val / 4 % 4] ∧ win3_1.index t = ![t.val / 16, 0, t.val / 4 % 4]
    ∧ win3_2.index t = ![t.val / 16, 0, t.val / 4 % 4] ∧ win3_3.index t = ![0, 0] ∧ win3_4.index t = ![0, 0]
    ∧ win3_5.index t = ![t.val / 16, t.val % 4, t.val / 4 % 4] ∧ t.val / 16 < 8 :=
  (by decide +kernel : ∀ t : Fin grid3.N, _)

theorem attRow_congr {q q' : Fin 128 → EReal} {k k' : Fin 2304 → Fin 128 → EReal} {v v' : Fin 2304 → Fin 256 → EReal}
    {l l' : Fin 4 → Fin 64 → EReal} {g g' : Fin 128 → EReal} {d d' : Fin 128} (hq : ∀ e, q e = q' e)
    (hk : ∀ p e, k p e = k' p e) (hv : ∀ p e, v p e = v' p e) (hl : ∀ a e, l a e = l' a e) (hg : ∀ e, g e = g' e)
    (hd : d = d') : attRow q k v l g d = attRow q' k' v' l' g' d' := by
  obtain rfl : q = q' := funext hq
  obtain rfl : k = k' := funext fun p => funext (hk p)
  obtain rfl : v = v' := funext fun p => funext (hv p)
  obtain rfl : l = l' := funext fun p => funext (hl p)
  obtain rfl : g = g' := funext hg
  obtain rfl := hd
  rfl

theorem emb3 (t : Fin cfg3.N) (b : Fin 1) (r : Fin 512) (d : Fin 128) :
    ((cfg3.win 5).blk t).view.emb (ix3 b r d) = ix3 ⟨t.val / 16, (idx3 t).2.2.2.2.2.2⟩ ⟨t.val % 4 * 512 + r, by omega⟩
      ⟨t.val / 4 % 4 * 128 + d, by omega⟩ := by
  blk_ext [idx3 t]

theorem read3_0 (c : Dev nD) (t : Fin cfg3.N) (b : Fin 1) (r : Fin 512) (d : Fin 128) :
    (show FVec Ideal S1x512x128 .bf16 from iblk3 V c 0 t) (ix3 b r d) = (show FVec Ideal S8x2048x512 .bf16 from V c main_v81_0)
      (ix3 ⟨t.val / 16, (idx3 t).2.2.2.2.2.2⟩ ⟨t.val % 4 * 512 + r, by omega⟩ ⟨t.val / 4 % 4 * 128 + d, by omega⟩) := by
  blk_ext [iblk3, idx3 t]

theorem read3_1 (c : Dev nD) (t : Fin cfg3.N) (b : Fin 1) (r : Fin 2304) (d : Fin 128) :
    (show FVec Ideal S1x2304x128 .bf16 from iblk3 V c 1 t) (ix3 b r d) = (show FVec Ideal S8x2304x512 .bf16 from V c main_v83_0)
      (ix3 ⟨t.val / 16, (idx3 t).2.2.2.2.2.2⟩ r ⟨t.val / 4 % 4 * 128 + d, by omega⟩) := by
  blk_ext [iblk3, idx3 t]

theorem read3_2 (c : Dev nD) (t : Fin cfg3.N) (b : Fin 1) (r : Fin 2304) (d : Fin 256) :
    (show FVec Ideal S1x2304x256 .bf16 from iblk3 V c 2 t) (ix3 b r d) = (show FVec Ideal S8x2304x1024 .bf16 from V c main_v83_1)
      (ix3 ⟨t.val / 16, (idx3 t).2.2.2.2.2.2⟩ r ⟨t.val / 4 % 4 * 256 + d, by omega⟩) := by
  blk_ext [iblk3, idx3 t]

theorem read3_3 (c : Dev nD) (t : Fin cfg3.N) (a : Fin 4) (e : Fin 64) :
    (show FVec Ideal S4x64 .f32 from iblk3 V c 3 t) (ix2 a e) = (show FVec Ideal S4x64 .f32 from V c main_arg4) (ix2 a e) := by
  blk_ext [iblk3, idx3 t]

theorem read3_4 (c : Dev nD) (t : Fin cfg3.N) (a : Fin 1) (e : Fin 128) :
    (show FVec Ideal S1x128 .f32 from iblk3 V c 4 t) (ix2 a e) = (show FVec Ideal S1x128 .f32 from V c main_v80) (ix2 a e) := by
  blk_ext [iblk3, idx3 t]

/-- `attention` at head `n`, column `d` of the head. -/
theorem attention_at (q : FVec Ideal S8x2048x512 .bf16) (k : FVec Ideal S8x2304x512 .bf16) (v : FVec Ideal S8x2304x1024 .bf16)
    (l : FVec Ideal S4x64 .f32) (g : FVec Ideal S1x128 .f32) (b : Fin 8) (r : Fin 2048) (n : ℕ) (hn : n < 4) (d : Fin 128) :
    attention q k v l g (ix3 b r ⟨n * 128 + d, by omega⟩)
      = attRow (fun e => q (ix3 b r ⟨n * 128 + e, by omega⟩)) (fun p e => k (ix3 b p ⟨n * 128 + e, by omega⟩))
          (fun p e => v (ix3 b p ⟨n * 256 + e, by omega⟩)) (fun a e => l (ix2 a e)) (fun e => g (ix2 0 e)) d := by
  have h1 : (n * 128 + (d : ℕ)) / 128 = n := by omega
  have h2 : (n * 128 + (d : ℕ)) % 128 = d := by omega
  refine attRow_congr (fun e => congrArg q ?_) (fun p e => congrArg k ?_) (fun p e => congrArg v ?_) (fun a e => rfl)
    (fun e => rfl) (Fin.ext h2)
  · exact congrArg (ix3 b r) (Fin.ext (congrArg (· * 128 + (e : ℕ)) h1))
  · exact congrArg (ix3 b p) (Fin.ext (congrArg (· * 128 + (e : ℕ)) h1))
  · exact congrArg (ix3 b p) (Fin.ext (congrArg (· * 256 + (e : ℕ)) h1))

theorem point3 (c : Dev nD) (t : Fin cfg3.N) (b : Fin 1) (r : Fin 512) (d : Fin 128) :
    k3_pay1 (F := Ideal)
      (k3_pay8 (k3_pay2 (iblk3 V c 0 t)) (iota Kind.tc S512x128 32 [1] iota_S512x128_d1_w32) k3_pay3
        (k3_pay4 (iblk3 V c 3 t)) (k3_pay6 (iblk3 V c 0 t) (iblk3 V c 1 t) (iblk3 V c 2 t))
        (k3_pay7 (iblk3 V c 0 t) (iblk3 V c 1 t) (iblk3 V c 2 t)) (iblk3 V c 1 t) (iblk3 V c 2 t) (iblk3 V c 4 t))
      (ix3 b r d)
    = attention (V c main_v81_0) (V c main_v83_0) (V c main_v83_1) (V c main_arg4) (V c main_v80)
        (((cfg3.win 5).blk t).view.emb (ix3 b r d)) := by
  refine (pay8_at _ _ _ _ _ b r d).trans (Eq.trans ?_ (congrArg (attention (V c main_v81_0) (V c main_v83_0) (V c main_v83_1)
    (V c main_arg4) (V c main_v80)) (emb3 t b r d)).symm)
  refine Eq.trans ?_ (attention_at _ _ _ _ _ _ _ _ (Nat.mod_lt _ (by decide)) d).symm
  exact attRow_congr (fun e => read3_0 V c t 0 r e) (fun p e => read3_1 V c t 0 p e) (fun p e => read3_2 V c t 0 p e)
    (fun a e => read3_3 V c t a e) (fun e => read3_4 V c t 0 e) rfl

theorem final3 (c : Dev nD) : (dat3 V c).arrAt 5 cfg3.N
    = attention (V c main_v81_0) (V c main_v83_0) (V c main_v83_1) (V c main_arg4) (V c main_v80) := by
  refine (dat3 V c).arrAt_eq_of_covers 5 _ (by decide +kernel) fun t _ y => ?_
  blk_simp
  rw [after3_5]; frame_out
  idx_vars y
  exact point3 V c t _ _ _

end Cert.KernelIdeal.Value

end
-- ==== Proof.PrepRegion.lean ====
module

public import proofs.«01_k».proof.Proof.Gen.KernelIdeal.Frame
public import proofs.«01_k».proof.Proof.PrepRow

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- 512 columns of the projected tokens, normalised and rotated: the columns from `o` on. -/
def prepRot (o : ℕ) (ho : o + 512 ≤ 5632) (h : FVec Ideal S8x2048x5632 .bf16) (g : FVec Ideal S1x512 .f32)
    (bd : FVec Ideal S512x512 .bf16) (co si : FVec Ideal S2048x512 .f32) : FVec Ideal S8x2048x512 .bf16 := fun i =>
  ropeRow (normRow (fun e => h (ix3 (i 0) (i 1) ⟨o + e, by omega⟩)) (fun j w => bd (ix2 j w)) (fun e => g (ix2 0 e)))
    (fun e => co (ix2 (i 1) e)) (fun e => si (ix2 (i 1) e)) (i 2)

/-- 512 columns of the context's projected tokens, normalised. -/
def prepCtx (o : ℕ) (ho : o + 512 ≤ 5632) (h : FVec Ideal S8x256x5632 .bf16) (g : FVec Ideal S1x512 .f32)
    (bd : FVec Ideal S512x512 .bf16) : FVec Ideal S8x256x512 .bf16 := fun i =>
  normRow (fun e => h (ix3 (i 0) (i 1) ⟨o + e, by omega⟩)) (fun j w => bd (ix2 j w)) (fun e => g (ix2 0 e)) (i 2)

theorem normRow_congr {x x' : Fin 512 → EReal} {bd bd' : Fin 512 → Fin 512 → EReal} {g g' : Fin 512 → EReal}
    (hx : ∀ e, x e = x' e) (hb : ∀ j w, bd j w = bd' j w) (hg : ∀ e, g e = g' e) : normRow x bd g = normRow x' bd' g' := by
  obtain rfl : x = x' := funext hx
  obtain rfl : bd = bd' := funext fun p => funext (hb p)
  obtain rfl : g = g' := funext hg
  rfl

theorem ropeRow_congr {y y' co co' si si' : Fin 512 → EReal} {w w' : Fin 512} (hy : y = y') (hc : ∀ e, co e = co' e)
    (hs : ∀ e, si e = si' e) (hw : w = w') : ropeRow y co si w = ropeRow y' co' si' w' := by
  obtain rfl := hy
  obtain rfl : co = co' := funext hc
  obtain rfl : si = si' := funext hs
  obtain rfl := hw
  rfl

variable (V : (c : Dev nD) → (b : Ref sig .tc) → Buf (Elt Ideal) ((c : Thread nD τ).loc b))

theorem idx0 : ∀ t : Fin cfg0.N,
    win0_0.index t = ![t.val / 2, t.val % 2, 8] ∧ win0_1.index t = ![t.val / 2, t.val % 2, 9]
    ∧ win0_2.index t = ![0, 0] ∧ win0_3.index t = ![0, 0] ∧ win0_4.index t = ![0, 0]
    ∧ win0_5.index t = ![t.val % 2, 0] ∧ win0_6.index t = ![t.val % 2, 0]
    ∧ win0_7.index t = ![t.val / 2, t.val % 2, 0] ∧ win0_8.index t = ![t.val / 2, t.val % 2, 0] ∧ t.val / 2 < 8 :=
  (by decide +kernel : ∀ t : Fin grid0.N, _)

theorem idx1 : ∀ t : Fin cfg1.N,
    win1_0.index t = ![t.val, 0, 8] ∧ win1_1.index t = ![t.val, 0, 9]
    ∧ win1_2.index t = ![0, 0] ∧ win1_3.index t = ![0, 0] ∧ win1_4.index t = ![0, 0]
    ∧ win1_5.index t = ![t.val, 0, 0] ∧ win1_6.index t = ![t.val, 0, 0] ∧ t.val < 8 :=
  (by decide +kernel : ∀ t : Fin grid1.N, _)

theorem lt0 (t : Fin cfg0.N) : t.val / 2 < 8 := (idx0 t).2.2.2.2.2.2.2.2.2
theorem lt1 (t : Fin cfg1.N) : t.val < 8 := (idx1 t).2.2.2.2.2.2.2

theorem emb0_7 (t : Fin cfg0.N) (b : Fin 1) (r : Fin 1024) (d : Fin 512) :
    ((cfg0.win 7).blk t).view.emb (ix3 b r d) = ix3 ⟨t.val / 2, lt0 t⟩ ⟨t.val % 2 * 1024 + r, by omega⟩ d := by
  blk_ext [idx0 t]

theorem emb0_8 (t : Fin cfg0.N) (b : Fin 1) (r : Fin 1024) (d : Fin 512) :
    ((cfg0.win 8).blk t).view.emb (ix3 b r d) = ix3 ⟨t.val / 2, lt0 t⟩ ⟨t.val % 2 * 1024 + r, by omega⟩ d := by
  blk_ext [idx0 t]

theorem read0_0 (c : Dev nD) (t : Fin cfg0.N) (b : Fin 1) (r : Fin 1024) (d : Fin 512) :
    (show FVec Ideal S1x1024x512 .bf16 from iblk0 V c 0 t) (ix3 b r d) = (show FVec Ideal S8x2048x5632 .bf16 from V c main_v3)
      (ix3 ⟨t.val / 2, lt0 t⟩ ⟨t.val % 2 * 1024 + r, by omega⟩ ⟨4096 + d, by omega⟩) := by
  blk_ext [iblk0, idx0 t]

theorem read0_1 (c : Dev nD) (t : Fin cfg0.N) (b : Fin 1) (r : Fin 1024) (d : Fin 512) :
    (show FVec Ideal S1x1024x512 .bf16 from iblk0 V c 1 t) (ix3 b r d) = (show FVec Ideal S8x2048x5632 .bf16 from V c main_v3)
      (ix3 ⟨t.val / 2, lt0 t⟩ ⟨t.val % 2 * 1024 + r, by omega⟩ ⟨4608 + d, by omega⟩) := by
  blk_ext [iblk0, idx0 t]

theorem read0_2 (c : Dev nD) (t : Fin cfg0.N) (a : Fin 1) (e : Fin 512) :
    (show FVec Ideal S1x512 .f32 from iblk0 V c 2 t) (ix2 a e) = (show FVec Ideal S1x512 .f32 from V c main_v75) (ix2 a e) := by
  blk_ext [iblk0, idx0 t]

theorem read0_3 (c : Dev nD) (t : Fin cfg0.N) (a : Fin 1) (e : Fin 512) :
    (show FVec Ideal S1x512 .f32 from iblk0 V c 3 t) (ix2 a e) = (show FVec Ideal S1x512 .f32 from V c main_v79) (ix2 a e) := by
  blk_ext [iblk0, idx0 t]

theorem read0_4 (c : Dev nD) (t : Fin cfg0.N) (a e : Fin 512) :
    (show FVec Ideal S512x512 .bf16 from iblk0 V c 4 t) (ix2 a e) = (show FVec Ideal S512x512 .bf16 from V c main_v18) (ix2 a e) := by
  blk_ext [iblk0, idx0 t]

theorem read0_5 (c : Dev nD) (t : Fin cfg0.N) (r : Fin 1024) (e : Fin 512) :
    (show FVec Ideal S1024x512 .f32 from iblk0 V c 5 t) (ix2 r e) = (show FVec Ideal S2048x512 .f32 from V c main_v63)
      (ix2 ⟨t.val % 2 * 1024 + r, by omega⟩ e) := by
  blk_ext [iblk0, idx0 t]

theorem read0_6 (c : Dev nD) (t : Fin cfg0.N) (r : Fin 1024) (e : Fin 512) :
    (show FVec Ideal S1024x512 .f32 from iblk0 V c 6 t) (ix2 r e) = (show FVec Ideal S2048x512 .f32 from V c main_v67)
      (ix2 ⟨t.val % 2 * 1024 + r, by omega⟩ e) := by
  blk_ext [iblk0, idx0 t]

/-- The rotated queries after region 0. -/
theorem final0_7 (c : Dev nD) : (dat0 V c).arrAt 7 cfg0.N
    = prepRot 4096 (by decide) (V c main_v3) (V c main_v75) (V c main_v18) (V c main_v63) (V c main_v67) := by
  refine (dat0 V c).arrAt_eq_of_covers 7 _ (by decide +kernel) fun t _ y => ?_
  blk_simp
  rw [after0_7]; frame_out
  idx_vars y
  refine (pay_q _ _ _ _ _ _ _ _).trans (Eq.trans ?_ (congrArg (prepRot 4096 (by decide) (V c main_v3) (V c main_v75)
    (V c main_v18) (V c main_v63) (V c main_v67)) (emb0_7 t _ _ _)).symm)
  exact ropeRow_congr (normRow_congr (fun e => read0_0 V c t 0 _ e) (fun j w => read0_4 V c t j w) (fun e => read0_2 V c t 0 e))
    (fun e => read0_5 V c t _ e) (fun e => read0_6 V c t _ e) rfl

/-- The rotated keys after region 0. -/
theorem final0_8 (c : Dev nD) : (dat0 V c).arrAt 8 cfg0.N
    = prepRot 4608 (by decide) (V c main_v3) (V c main_v79) (V c main_v18) (V c main_v63) (V c main_v67) := by
  refine (dat0 V c).arrAt_eq_of_covers 8 _ (by decide +kernel) fun t _ y => ?_
  blk_simp
  rw [after0_8]; frame_out
  idx_vars y
  refine (pay_k _ _ _ _ _ _ _ _).trans (Eq.trans ?_ (congrArg (prepRot 4608 (by decide) (V c main_v3) (V c main_v79)
    (V c main_v18) (V c main_v63) (V c main_v67)) (emb0_8 t _ _ _)).symm)
  exact ropeRow_congr (normRow_congr (fun e => read0_1 V c t 0 _ e) (fun j w => read0_4 V c t j w) (fun e => read0_3 V c t 0 e))
    (fun e => read0_5 V c t _ e) (fun e => read0_6 V c t _ e) rfl

theorem emb1_6 (t : Fin cfg1.N) (b : Fin 1) (r : Fin 256) (d : Fin 512) :
    ((cfg1.win 6).blk t).view.emb (ix3 b r d) = ix3 ⟨t.val, lt1 t⟩ r d := by
  blk_ext [idx1 t]

theorem read1_1 (c : Dev nD) (t : Fin cfg1.N) (b : Fin 1) (r : Fin 256) (d : Fin 512) :
    (show FVec Ideal S1x256x512 .bf16 from iblk1 V c 1 t) (ix3 b r d) = (show FVec Ideal S8x256x5632 .bf16 from V c main_v7)
      (ix3 ⟨t.val, lt1 t⟩ r ⟨4608 + d, by omega⟩) := by
  blk_ext [iblk1, idx1 t]

theorem read1_3 (c : Dev nD) (t : Fin cfg1.N) (a : Fin 1) (e : Fin 512) :
    (show FVec Ideal S1x512 .f32 from iblk1 V c 3 t) (ix2 a e) = (show FVec Ideal S1x512 .f32 from V c main_v79) (ix2 a e) := by
  blk_ext [iblk1, idx1 t]

theorem read1_4 (c : Dev nD) (t : Fin cfg1.N) (a e : Fin 512) :
    (show FVec Ideal S512x512 .bf16 from iblk1 V c 4 t) (ix2 a e) = (show FVec Ideal S512x512 .bf16 from V c main_v18) (ix2 a e) := by
  blk_ext [iblk1, idx1 t]

/-- The context's keys after region 1. -/
theorem final1_6 (c : Dev nD) : (dat1 V c).arrAt 6 cfg1.N
    = prepCtx 4608 (by decide) (V c main_v7) (V c main_v79) (V c main_v18) := by
  refine (dat1 V c).arrAt_eq_of_covers 6 _ (by decide +kernel) fun t _ y => ?_
  blk_simp
  rw [after1_6]; frame_out
  idx_vars y
  refine (pay_kc _ _ _ _ _ _).trans (Eq.trans ?_ (congrArg (prepCtx 4608 (by decide) (V c main_v7) (V c main_v79)
    (V c main_v18)) (emb1_6 t _ _ _)).symm)
  exact congrFun (normRow_congr (fun e => read1_1 V c t 0 _ e) (fun j w => read1_4 V c t j w) (fun e => read1_3 V c t 0 e)) _

end Cert.KernelIdeal.Value

end
-- ==== Proof.ConcatRegion.lean ====
module

public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The keys of the tokens followed by those of the context. -/
def allKeys (k : FVec Ideal S8x2048x512 .bf16) (kc : FVec Ideal S8x256x512 .bf16) : FVec Ideal S8x2304x512 .bf16 := fun i =>
  if h : (i 1 : ℕ) < 2048 then k (ix3 (i 0) ⟨i 1, h⟩ (i 2))
  else kc (ix3 (i 0) ⟨(i 1 : ℕ) - 2048, by have h1 : (i 1 : ℕ) < 2304 := (i 1).isLt; omega⟩ (i 2))

/-- The values of the tokens followed by those of the context, each head's 128 columns followed by 128 columns of ones. -/
def allValues (h : FVec Ideal S8x2048x5632 .bf16) (hc : FVec Ideal S8x256x5632 .bf16) : FVec Ideal S8x2304x1024 .bf16 := fun i =>
  if (i 2 : ℕ) % 256 < 128 then
    if hp : (i 1 : ℕ) < 2048 then
      h (ix3 (i 0) ⟨i 1, hp⟩ ⟨5120 + ((i 2 : ℕ) / 256 * 128 + (i 2 : ℕ) % 128), by have h1 : (i 2 : ℕ) < 1024 := (i 2).isLt; omega⟩)
    else hc (ix3 (i 0) ⟨(i 1 : ℕ) - 2048, by have h1 : (i 1 : ℕ) < 2304 := (i 1).isLt; omega⟩
      ⟨5120 + ((i 2 : ℕ) / 256 * 128 + (i 2 : ℕ) % 128), by have h1 : (i 2 : ℕ) < 1024 := (i 2).isLt; omega⟩)
  else Ideal.ofBits .bf16 0x3F80#16

theorem allKeys_lo (k : FVec Ideal S8x2048x512 .bf16) (kc : FVec Ideal S8x256x512 .bf16) (b : Fin 8) (r : Fin 2304) (d : Fin 512)
    (h : r.val < 2048) : allKeys k kc (ix3 b r d) = k (ix3 b ⟨r, h⟩ d) := dif_pos h

theorem allKeys_hi (k : FVec Ideal S8x2048x512 .bf16) (kc : FVec Ideal S8x256x512 .bf16) (b : Fin 8) (r : Fin 2304) (d : Fin 512)
    (h : ¬ r.val < 2048) : allKeys k kc (ix3 b r d) = kc (ix3 b ⟨r - 2048, by omega⟩ d) := dif_neg h

theorem allValues_lo (h : FVec Ideal S8x2048x5632 .bf16) (hc : FVec Ideal S8x256x5632 .bf16) (b : Fin 8) (r : Fin 2304) (d : Fin 1024)
    (hq : d.val % 256 < 128) (hp : r.val < 2048) :
    allValues h hc (ix3 b r d) = h (ix3 b ⟨r, hp⟩ ⟨5120 + (d / 256 * 128 + d % 128), by omega⟩) :=
  (if_pos hq).trans (dif_pos hp)

theorem allValues_hi (h : FVec Ideal S8x2048x5632 .bf16) (hc : FVec Ideal S8x256x5632 .bf16) (b : Fin 8) (r : Fin 2304) (d : Fin 1024)
    (hq : d.val % 256 < 128) (hp : ¬ r.val < 2048) :
    allValues h hc (ix3 b r d) = hc (ix3 b ⟨r - 2048, by omega⟩ ⟨5120 + (d / 256 * 128 + d % 128), by omega⟩) :=
  (if_pos hq).trans (dif_neg hp)

theorem allValues_one (h : FVec Ideal S8x2048x5632 .bf16) (hc : FVec Ideal S8x256x5632 .bf16) (b : Fin 8) (r : Fin 2304) (d : Fin 1024)
    (hq : ¬ d.val % 256 < 128) : allValues h hc (ix3 b r d) = Ideal.ofBits .bf16 0x3F80#16 := if_neg hq

variable (V : (c : Dev nD) → (b : Ref sig .tc) → Buf (Elt Ideal) ((c : Thread nD τ).loc b))

theorem idx2 : ∀ t : Fin cfg2.N,
    win2_0.index t = ![t.val, 0, 0] ∧ win2_1.index t = ![t.val, 0, 0]
    ∧ win2_2.index t = ![t.val, 0, 10] ∧ win2_3.index t = ![t.val, 0, 10]
    ∧ win2_4.index t = ![t.val, 0, 0] ∧ win2_5.index t = ![t.val, 0, 0] ∧ t.val < 8 :=
  (by decide +kernel : ∀ t : Fin grid2.N, _)

theorem lt2 (t : Fin cfg2.N) : t.val < 8 := (idx2 t).2.2.2.2.2.2

theorem emb2_4 (t : Fin cfg2.N) (b : Fin 1) (r : Fin 2304) (d : Fin 512) :
    ((cfg2.win 4).blk t).view.emb (ix3 b r d) = ix3 ⟨t.val, lt2 t⟩ r d := by
  blk_ext [idx2 t]

theorem emb2_5 (t : Fin cfg2.N) (b : Fin 1) (r : Fin 2304) (d : Fin 1024) :
    ((cfg2.win 5).blk t).view.emb (ix3 b r d) = ix3 ⟨t.val, lt2 t⟩ r d := by
  blk_ext [idx2 t]

theorem read2_0 (c : Dev nD) (t : Fin cfg2.N) (b : Fin 1) (r : Fin 2048) (d : Fin 512) :
    (show FVec Ideal S1x2048x512 .bf16 from iblk2 V c 0 t) (ix3 b r d) = (show FVec Ideal S8x2048x512 .bf16 from V c main_v81_1)
      (ix3 ⟨t.val, lt2 t⟩ r d) := by
  blk_ext [iblk2, idx2 t]

theorem read2_1 (c : Dev nD) (t : Fin cfg2.N) (b : Fin 1) (r : Fin 256) (d : Fin 512) :
    (show FVec Ideal S1x256x512 .bf16 from iblk2 V c 1 t) (ix3 b r d) = (show FVec Ideal S8x256x512 .bf16 from V c main_v82_1)
      (ix3 ⟨t.val, lt2 t⟩ r d) := by
  blk_ext [iblk2, idx2 t]

theorem read2_2 (c : Dev nD) (t : Fin cfg2.N) (b : Fin 1) (r : Fin 2048) (d : Fin 512) :
    (show FVec Ideal S1x2048x512 .bf16 from iblk2 V c 2 t) (ix3 b r d) = (show FVec Ideal S8x2048x5632 .bf16 from V c main_v3)
      (ix3 ⟨t.val, lt2 t⟩ r ⟨5120 + d, by omega⟩) := by
  blk_ext [iblk2, idx2 t]

theorem read2_3 (c : Dev nD) (t : Fin cfg2.N) (b : Fin 1) (r : Fin 256) (d : Fin 512) :
    (show FVec Ideal S1x256x512 .bf16 from iblk2 V c 3 t) (ix3 b r d) = (show FVec Ideal S8x256x5632 .bf16 from V c main_v7)
      (ix3 ⟨t.val, lt2 t⟩ r ⟨5120 + d, by omega⟩) := by
  blk_ext [iblk2, idx2 t]

/-- One batch of `allKeys`. -/
def blockKeys (A : FVec Ideal S1x2048x512 .bf16) (B : FVec Ideal S1x256x512 .bf16) : FVec Ideal S1x2304x512 .bf16 := fun y =>
  if h : (y 1 : ℕ) < 2048 then A (ix3 0 ⟨y 1, h⟩ (y 2))
  else B (ix3 0 ⟨(y 1 : ℕ) - 2048, by have h1 : (y 1 : ℕ) < 2304 := (y 1).isLt; omega⟩ (y 2))

/-- One batch of `allValues`. -/
def blockValues (A : FVec Ideal S1x2048x512 .bf16) (B : FVec Ideal S1x256x512 .bf16) : FVec Ideal S1x2304x1024 .bf16 := fun y =>
  if (y 2 : ℕ) % 256 < 128 then
    if hp : (y 1 : ℕ) < 2048 then
      A (ix3 0 ⟨y 1, hp⟩ ⟨(y 2 : ℕ) / 256 * 128 + (y 2 : ℕ) % 128, by have h1 : (y 2 : ℕ) < 1024 := (y 2).isLt; omega⟩)
    else B (ix3 0 ⟨(y 1 : ℕ) - 2048, by have h1 : (y 1 : ℕ) < 2304 := (y 1).isLt; omega⟩
      ⟨(y 2 : ℕ) / 256 * 128 + (y 2 : ℕ) % 128, by have h1 : (y 2 : ℕ) < 1024 := (y 2).isLt; omega⟩)
  else Ideal.ofBits .bf16 0x3F80#16

theorem final2_4 (c : Dev nD) : (dat2 V c).arrAt 4 cfg2.N = allKeys (V c main_v81_1) (V c main_v82_1) := by
  refine (dat2 V c).arrAt_eq_of_covers 4 _ (by decide +kernel) fun t _ y => ?_
  blk_simp
  rw [after2_4]; unfold outsAt2; frame_out
  refine Eq.trans (b := blockKeys (iblk2 V c 0 t) (iblk2 V c 1 t) y) ?_ ?_
  · generalize iblk2 V c 0 t = A
    generalize iblk2 V c 1 t = B
    canon_tiles x h using (View.cover_of_tiledBy _ ![1, 256, 512] (by sl_kernel_rfl) y)
    · idx_vars x
      refine Eq.trans ?_ (dif_neg (by omega)).symm
      pointwise [k2_pay12]
      blk_ext []
    · idx_vars x
      refine Eq.trans ?_ (dif_pos (by omega)).symm
      pointwise [k2_pay1]
      blk_ext []
  · idx_vars y
    refine Eq.trans ?_ (congrArg (allKeys (V c main_v81_1) (V c main_v82_1)) (emb2_4 t _ _ _)).symm
    by_cases hp : y1.val < 2048
    · exact (dif_pos hp).trans ((read2_0 V c t _ _ _).trans (allKeys_lo _ _ _ _ _ hp).symm)
    · exact (dif_neg hp).trans ((read2_1 V c t _ _ _).trans (allKeys_hi _ _ _ _ _ hp).symm)

theorem final2_5 (c : Dev nD) : (dat2 V c).arrAt 5 cfg2.N = allValues (V c main_v3) (V c main_v7) := by
  refine (dat2 V c).arrAt_eq_of_covers 5 _ (by decide +kernel) fun t _ y => ?_
  blk_simp
  rw [after2_5]; unfold outsAt2; frame_out
  refine Eq.trans (b := blockValues (iblk2 V c 2 t) (iblk2 V c 3 t) y) ?_ ?_
  · generalize iblk2 V c 2 t = A
    generalize iblk2 V c 3 t = B
    canon_tiles x h using (View.cover_of_tiledBy _ ![1, 256, 128] (by sl_kernel_rfl) y)
    · idx_vars x
      refine Eq.trans ?_ (if_neg (by omega)).symm
      pointwise [k2_pay21, k2_pay13]
    · idx_vars x
      refine Eq.trans ?_ ((if_pos (by omega)).trans (dif_neg (by omega))).symm
      pointwise [k2_pay20]
      blk_ext []
    · idx_vars x
      refine Eq.trans ?_ (if_neg (by omega)).symm
      pointwise [k2_pay19, k2_pay13]
    · idx_vars x
      refine Eq.trans ?_ ((if_pos (by omega)).trans (dif_neg (by omega))).symm
      pointwise [k2_pay18]
      blk_ext []
    · idx_vars x
      refine Eq.trans ?_ (if_neg (by omega)).symm
      pointwise [k2_pay17, k2_pay13]
    · idx_vars x
      refine Eq.trans ?_ ((if_pos (by omega)).trans (dif_neg (by omega))).symm
      pointwise [k2_pay16]
      blk_ext []
    · idx_vars x
      refine Eq.trans ?_ (if_neg (by omega)).symm
      pointwise [k2_pay15, k2_pay13]
    · idx_vars x
      refine Eq.trans ?_ ((if_pos (by omega)).trans (dif_neg (by omega))).symm
      pointwise [k2_pay14]
      blk_ext []
    · idx_vars x
      refine Eq.trans ?_ (if_neg (by omega)).symm
      pointwise [k2_pay11, k2_pay2]
    · idx_vars x
      refine Eq.trans ?_ ((if_pos (by omega)).trans (dif_pos (by omega))).symm
      pointwise [k2_pay10]
      blk_ext []
    · idx_vars x
      refine Eq.trans ?_ (if_neg (by omega)).symm
      pointwise [k2_pay9, k2_pay2]
    · idx_vars x
      refine Eq.trans ?_ ((if_pos (by omega)).trans (dif_pos (by omega))).symm
      pointwise [k2_pay8, k2_pay7]
      blk_ext []
    · idx_vars x
      refine Eq.trans ?_ (if_neg (by omega)).symm
      pointwise [k2_pay6, k2_pay2]
    · idx_vars x
      refine Eq.trans ?_ ((if_pos (by omega)).trans (dif_pos (by omega))).symm
      pointwise [k2_pay5]
      blk_ext []
    · idx_vars x
      refine Eq.trans ?_ (if_neg (by omega)).symm
      pointwise [k2_pay4, k2_pay2]
    · idx_vars x
      refine Eq.trans ?_ ((if_pos (by omega)).trans (dif_pos (by omega))).symm
      pointwise [k2_pay3]
      blk_ext []
  · idx_vars y
    refine Eq.trans ?_ (congrArg (allValues (V c main_v3) (V c main_v7)) (emb2_5 t _ _ _)).symm
    by_cases hq : y2.val % 256 < 128
    · refine (if_pos hq).trans ?_
      by_cases hp : y1.val < 2048
      · exact (dif_pos hp).trans ((read2_2 V c t _ _ _).trans (allValues_lo _ _ _ _ _ hq hp).symm)
      · exact (dif_neg hp).trans ((read2_3 V c t _ _ _).trans (allValues_hi _ _ _ _ _ hq hp).symm)
    · exact (if_neg hq).trans (allValues_one _ _ _ _ _ hq).symm

end Cert.KernelIdeal.Value

end
-- ==== Proof.AttFinal.lean ====
module

public import proofs.«01_k».proof.Proof.AttHost
public import proofs.«01_k».proof.Proof.AttRegion
public import proofs.«01_k».proof.Proof.PrepRegion
public import proofs.«01_k».proof.Proof.ConcatRegion

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem kept4 (r : Ref sig .tc) (h : ∀ w : Fin cfg0.W, Pipeline.arrRef spec0 w = r → (cfg0.win w).isOut = false) :
    V4 m ρ c r = V3 m ρ c r := W4_of m ρ c r h

theorem kept5 (r : Ref sig .tc) (h : ∀ w : Fin cfg1.W, Pipeline.arrRef spec1 w = r → (cfg1.win w).isOut = false) :
    V5 m ρ c r = V4 m ρ c r := W5_of m ρ c r h

theorem kept6 (r : Ref sig .tc) (h : ∀ w : Fin cfg2.W, Pipeline.arrRef spec2 w = r → (cfg2.win w).isOut = false) :
    V6 m ρ c r = V5 m ρ c r := W6_of m ρ c r h

/-- The rotated queries, as the last grid reads them. -/
theorem queries6 : V6 m ρ c main_v81_0 = prepRot 4096 (by decide) (V3 m ρ c main_v3) (V3 m ρ c main_v75)
    (V3 m ρ c main_v18) (V3 m ρ c main_v63) (V3 m ρ c main_v67) :=
  ((kept6 m ρ c main_v81_0 (by decide +kernel)).trans (kept5 m ρ c main_v81_0 (by decide +kernel))).trans
    ((W4_arr m ρ c 7).trans (final0_7 (V3 m ρ) c))

/-- The rotated keys of the tokens, as the third grid reads them. -/
theorem keys5 : V5 m ρ c main_v81_1 = prepRot 4608 (by decide) (V3 m ρ c main_v3) (V3 m ρ c main_v79)
    (V3 m ρ c main_v18) (V3 m ρ c main_v63) (V3 m ρ c main_v67) :=
  (kept5 m ρ c main_v81_1 (by decide +kernel)).trans ((W4_arr m ρ c 8).trans (final0_8 (V3 m ρ) c))

/-- The keys of the context, as the third grid reads them. -/
theorem context5 : V5 m ρ c main_v82_1 = prepCtx 4608 (by decide) (V3 m ρ c main_v7) (V3 m ρ c main_v79) (V3 m ρ c main_v18) := by
  refine ((W5_arr m ρ c 6).trans (final1_6 (V4 m ρ) c)).trans ?_
  rw [kept4 m ρ c main_v7 (by decide +kernel), kept4 m ρ c main_v79 (by decide +kernel), kept4 m ρ c main_v18 (by decide +kernel)]

/-- All the keys, as the last grid reads them. -/
theorem keys6 : V6 m ρ c main_v83_0 = allKeys (prepRot 4608 (by decide) (V3 m ρ c main_v3) (V3 m ρ c main_v79)
    (V3 m ρ c main_v18) (V3 m ρ c main_v63) (V3 m ρ c main_v67))
    (prepCtx 4608 (by decide) (V3 m ρ c main_v7) (V3 m ρ c main_v79) (V3 m ρ c main_v18)) := by
  refine ((W6_arr m ρ c 4).trans (final2_4 (V5 m ρ) c)).trans ?_
  rw [keys5, context5]

/-- All the values, as the last grid reads them. -/
theorem values6 : V6 m ρ c main_v83_1 = allValues (V3 m ρ c main_v3) (V3 m ρ c main_v7) := by
  refine ((W6_arr m ρ c 5).trans (final2_5 (V5 m ρ) c)).trans ?_
  rw [kept5 m ρ c main_v3 (by decide +kernel), kept4 m ρ c main_v3 (by decide +kernel),
    kept5 m ρ c main_v7 (by decide +kernel), kept4 m ρ c main_v7 (by decide +kernel)]

/-- What the whole program leaves in its result. -/
theorem final7 : W7 m ρ c (Proc.devRef .tc main_v84) = attention
    (prepRot 4096 (by decide) (V3 m ρ c main_v3) (V3 m ρ c main_v75) (V3 m ρ c main_v18) (V3 m ρ c main_v63) (V3 m ρ c main_v67))
    (allKeys (prepRot 4608 (by decide) (V3 m ρ c main_v3) (V3 m ρ c main_v79) (V3 m ρ c main_v18) (V3 m ρ c main_v63)
      (V3 m ρ c main_v67)) (prepCtx 4608 (by decide) (V3 m ρ c main_v7) (V3 m ρ c main_v79) (V3 m ρ c main_v18)))
    (allValues (V3 m ρ c main_v3) (V3 m ρ c main_v7)) (m ((c : Thread nD τ).loc main_arg4)) (V3 m ρ c main_v80) := by
  refine ((W7_arr m ρ c 5).trans (final3 (V6 m ρ) c)).trans ?_
  rw [queries6, keys6, values6, show V6 m ρ c main_arg4 = m ((c : Thread nD τ).loc main_arg4) from
      W6_args m ρ c main_arg4 (by decide +kernel),
    kept6 m ρ c main_v80 (by decide +kernel), kept5 m ρ c main_v80 (by decide +kernel), kept4 m ρ c main_v80 (by decide +kernel)]

end Cert.KernelIdeal.Value

end
-- ==== Proof.RefAttRows.lean ====
module

public import proofs.«01_k».proof.Proof.Gen.ReferenceIdeal.Read
public import proofs.«01_k».proof.Proof.AttMath
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Read Idealize.ShloMosaic
open Cert.KernelIdeal.Value (rms freq angle turn)

/-! The reference's queries, keys and values, read element by element. -/

variable (x0 : FVec Ideal S8x2048x5632 .f32) (x1 : FVec Ideal S8x256x5632 .f32) (x2 x3 : FVec Ideal S2x64 .f32)

/-- The normalised queries. -/
theorem v80_at (b : Fin 8) (r : Fin 2048) (n : Fin 4) (i : Fin 2) (e : Fin 64) :
    val_main_v80 (F := Ideal) x0 x2 (ix5 b r n i e) = x0 (ix3 b r ⟨1024 + (n * 128 + i * 64 + e), by omega⟩)
      * rms (fun e => x0 (ix3 b r ⟨1024 + (n * 128 + i * 64 + e), by omega⟩)) * x2 (ix2 i e) := by
  pointwise [val_main_v80, val_main_v79, val_main_v78, val_main_v77, val_main_v76, val_main_v75, val_main_v74, val_main_v73, val_main_v72, val_main_v71, val_main_v70, val_main_v69, val_main_v68, val_main_v56, val_main_v52, val_main_cst_8, val_main_cst_7, val_main_cst_6]
  rfl

/-- The normalised keys of the tokens. -/
theorem v114_at (b : Fin 8) (r : Fin 2048) (n : Fin 4) (i : Fin 2) (e : Fin 64) :
    val_main_v114 (F := Ideal) x0 x3 (ix5 b r n i e) = x0 (ix3 b r ⟨1536 + (n * 128 + i * 64 + e), by omega⟩)
      * rms (fun e => x0 (ix3 b r ⟨1536 + (n * 128 + i * 64 + e), by omega⟩)) * x3 (ix2 i e) := by
  pointwise [val_main_v114, val_main_v113, val_main_v112, val_main_v111, val_main_v110, val_main_v109, val_main_v108, val_main_v107, val_main_v106, val_main_v105, val_main_v104, val_main_v103, val_main_v102, val_main_v57, val_main_v53, val_main_cst_11, val_main_cst_10, val_main_cst_9]
  rfl

/-- The normalised keys of the context. -/
theorem v148_at (b : Fin 8) (r : Fin 256) (n : Fin 4) (i : Fin 2) (e : Fin 64) :
    val_main_v148 (F := Ideal) x1 x3 (ix5 b r n i e) = x1 (ix3 b r ⟨1536 + (n * 128 + i * 64 + e), by omega⟩)
      * rms (fun e => x1 (ix3 b r ⟨1536 + (n * 128 + i * 64 + e), by omega⟩)) * x3 (ix2 i e) := by
  pointwise [val_main_v148, val_main_v147, val_main_v146, val_main_v145, val_main_v144, val_main_v143, val_main_v142, val_main_v141, val_main_v140, val_main_v139, val_main_v138, val_main_v137, val_main_v136, val_main_v66, val_main_v62, val_main_cst_14, val_main_cst_13, val_main_cst_12]
  rfl

theorem v31_at (l : Fin 2048) (j : Fin 2) (f : Fin 16) : val_main_v31 (F := Ideal) (ix3 l j f) = angle l j f := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2]
  unfold angle freq
  split_ifs <;> rfl

/-- The rotated queries. -/
theorem v101_at (b : Fin 8) (r : Fin 2048) (n : Fin 4) (i : Fin 2) (e : Fin 64) :
    val_main_v101 (F := Ideal) x0 x2 (ix5 b r n i e) = turn (fun e => val_main_v80 (F := Ideal) x0 x2 (ix5 b r n i e))
      (fun j f => val_main_v31 (F := Ideal) (ix3 r j f)) e := by
  unfold val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v33 val_main_v32
  generalize val_main_v80 (F := Ideal) x0 x2 = y
  generalize val_main_v31 (F := Ideal) = t
  pointwise []
  unfold turn
  split_ifs <;> rfl

/-- The rotated keys of the tokens. -/
theorem v135_at (b : Fin 8) (r : Fin 2048) (n : Fin 4) (i : Fin 2) (e : Fin 64) :
    val_main_v135 (F := Ideal) x0 x3 (ix5 b r n i e) = turn (fun e => val_main_v114 (F := Ideal) x0 x3 (ix5 b r n i e))
      (fun j f => val_main_v31 (F := Ideal) (ix3 r j f)) e := by
  unfold val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v33 val_main_v32
  generalize val_main_v114 (F := Ideal) x0 x3 = y
  generalize val_main_v31 (F := Ideal) = t
  pointwise []
  unfold turn
  split_ifs <;> rfl

/-- All the keys: the tokens' and then the context's. -/
theorem v152_at (b : Fin 8) (n : Fin 4) (p : Fin 2304) (i : Fin 2) (e : Fin 64) :
    val_main_v152 (F := Ideal) x0 x1 x3 (ix5 b n p i e) =
      if h : (p : ℕ) < 2048 then val_main_v135 (F := Ideal) x0 x3 (ix5 b ⟨p, h⟩ n i e)
      else val_main_v148 (F := Ideal) x1 x3 (ix5 b ⟨p - 2048, by omega⟩ n i e) := by
  unfold val_main_v152 val_main_v151 val_main_v149
  generalize val_main_v135 (F := Ideal) x0 x3 = y
  generalize val_main_v148 (F := Ideal) x1 x3 = z
  pointwise []

theorem v155_at (b : Fin 8) (n : Fin 4) (r : Fin 2048) (i : Fin 2) (e : Fin 64) :
    val_main_v155 (F := Ideal) x0 x2 (ix5 b n r i e) = val_main_v101 (F := Ideal) x0 x2 (ix5 b r n i e) := by
  unfold val_main_v155
  generalize val_main_v101 (F := Ideal) x0 x2 = y
  pointwise []

/-- All the values: the tokens' and then the context's. -/
theorem v154_at (b : Fin 8) (n : Fin 4) (p : Fin 2304) (d : Fin 128) :
    val_main_v154 (F := Ideal) x0 x1 (ix4 b n p d) =
      if h : (p : ℕ) < 2048 then x0 (ix3 b ⟨p, h⟩ ⟨2048 + (n * 128 + d), by omega⟩)
      else x1 (ix3 b ⟨p - 2048, by omega⟩ ⟨2048 + (n * 128 + d), by omega⟩) := by
  pointwise [val_main_v154, val_main_v153, val_main_v150, val_main_v67, val_main_v63, val_main_v58, val_main_v54]

end Cert.ReferenceIdeal.Value

end
-- ==== Proof.RefAttSoft.lean ====
module

public import proofs.«01_k».proof.Proof.Gen.ReferenceIdeal.Read
public import proofs.«01_k».proof.Proof.AttMath
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Read Idealize.ShloMosaic
open Cert.KernelIdeal.Value (lamOf finish)

/-! The reference's attention, read element by element from its queries, keys and values. -/

variable (x0 : FVec Ideal S8x2048x5632 .f32) (x1 : FVec Ideal S8x256x5632 .f32) (x2 x3 : FVec Ideal S2x64 .f32)
  (x4 : FVec Ideal S4x64 .f32) (x5 : FVec Ideal S128 .f32)

theorem v156_at (b : Fin 8) (n : Fin 4) (i : Fin 2) (r : Fin 2048) (p : Fin 2304) :
    val_main_v156 (F := Ideal) x0 x1 x2 x3 (ix5 b n i r p) =
      ∑ e : Fin 64, val_main_v155 (F := Ideal) x0 x2 (ix5 b n r i e) * val_main_v152 (F := Ideal) x0 x1 x3 (ix5 b n p i e) := by
  unfold val_main_v156
  generalize val_main_v155 (F := Ideal) x0 x2 = y
  generalize val_main_v152 (F := Ideal) x0 x1 x3 = z
  pointwise []

/-- One scaled score. -/
theorem v158_at (b : Fin 8) (n : Fin 4) (i : Fin 2) (r : Fin 2048) (p : Fin 2304) :
    val_main_v158 (F := Ideal) x0 x1 x2 x3 (ix5 b n i r p) =
      (∑ e : Fin 64, val_main_v155 (F := Ideal) x0 x2 (ix5 b n r i e) * val_main_v152 (F := Ideal) x0 x1 x3 (ix5 b n p i e))
        * Ideal.ofBits .f32 0x3E000000#32 := by
  rw [val_main_v158_apply, v156_at, val_main_v157_apply, val_main_cst_15_apply]
  rfl

theorem v159_at (b : Fin 8) (n : Fin 4) (i : Fin 2) (r : Fin 2048) :
    val_main_v159 (F := Ideal) x0 x1 x2 x3 (ix4 b n i r) = Finset.fold max (Ideal.ofBits .f32 0xFF800000#32)
      (fun p : Fin 2304 => val_main_v158 (F := Ideal) x0 x1 x2 x3 (ix5 b n i r p)) Finset.univ := by
  unfold val_main_v159 val_main_cst_16
  generalize val_main_v158 (F := Ideal) x0 x1 x2 x3 = y
  pointwise []

/-- The largest scaled score of a row. -/
theorem v161_at (b : Fin 8) (n : Fin 4) (i : Fin 2) (r : Fin 2048) :
    val_main_v161 (F := Ideal) x0 x1 x2 x3 (ix4 b n i r) = max (Ideal.ofBits .f32 0xFF800000#32)
      (Finset.fold max (Ideal.ofBits .f32 0xFF800000#32)
      (fun p : Fin 2304 => val_main_v158 (F := Ideal) x0 x1 x2 x3 (ix5 b n i r p)) Finset.univ) := by
  rw [val_main_v161_apply, v159_at, val_main_v160_apply]
  rfl

theorem v163_at (b : Fin 8) (n : Fin 4) (i : Fin 2) (r : Fin 2048) (p : Fin 2304) :
    val_main_v163 (F := Ideal) x0 x1 x2 x3 (ix5 b n i r p) = val_main_v161 (F := Ideal) x0 x1 x2 x3 (ix4 b n i r) := by
  unfold val_main_v163 val_main_v162
  generalize val_main_v161 (F := Ideal) x0 x1 x2 x3 = y
  pointwise []

theorem v165_at (b : Fin 8) (n : Fin 4) (i : Fin 2) (r : Fin 2048) (p : Fin 2304) :
    val_main_v165 (F := Ideal) x0 x1 x2 x3 (ix5 b n i r p) = Ideal.exp (val_main_v158 (F := Ideal) x0 x1 x2 x3 (ix5 b n i r p)
      - val_main_v161 (F := Ideal) x0 x1 x2 x3 (ix4 b n i r)) := by
  rw [val_main_v165_apply, val_main_v164_apply, v163_at]
  rfl

theorem v166_at (b : Fin 8) (n : Fin 4) (i : Fin 2) (r : Fin 2048) :
    val_main_v166 (F := Ideal) x0 x1 x2 x3 (ix4 b n i r) =
      ∑ p : Fin 2304, val_main_v165 (F := Ideal) x0 x1 x2 x3 (ix5 b n i r p) := by
  unfold val_main_v166 val_main_cst_18
  generalize val_main_v165 (F := Ideal) x0 x1 x2 x3 = y
  pointwise []

theorem v168_at (b : Fin 8) (n : Fin 4) (i : Fin 2) (r : Fin 2048) (p : Fin 2304) :
    val_main_v168 (F := Ideal) x0 x1 x2 x3 (ix5 b n i r p) = val_main_v166 (F := Ideal) x0 x1 x2 x3 (ix4 b n i r) := by
  unfold val_main_v168 val_main_v167
  generalize val_main_v166 (F := Ideal) x0 x1 x2 x3 = y
  pointwise []

/-- One weight of a map. -/
theorem v169_at (b : Fin 8) (n : Fin 4) (i : Fin 2) (r : Fin 2048) (p : Fin 2304) :
    val_main_v169 (F := Ideal) x0 x1 x2 x3 (ix5 b n i r p) =
      Ideal.div (val_main_v165 (F := Ideal) x0 x1 x2 x3 (ix5 b n i r p))
        (∑ p : Fin 2304, val_main_v165 (F := Ideal) x0 x1 x2 x3 (ix5 b n i r p)) := by
  rw [val_main_v169_apply, v168_at, v166_at]
  rfl

theorem v171_at (b : Fin 8) (n : Fin 4) (r : Fin 2048) (p : Fin 2304) :
    val_main_v171 (F := Ideal) x0 x1 x2 x3 (ix4 b n r p) = val_main_v169 (F := Ideal) x0 x1 x2 x3 (ix5 b n 0 r p) := by
  unfold val_main_v171 val_main_v170
  generalize val_main_v169 (F := Ideal) x0 x1 x2 x3 = y
  pointwise []

theorem v173_at (b : Fin 8) (n : Fin 4) (r : Fin 2048) (p : Fin 2304) :
    val_main_v173 (F := Ideal) x0 x1 x2 x3 (ix4 b n r p) = val_main_v169 (F := Ideal) x0 x1 x2 x3 (ix5 b n 1 r p) := by
  unfold val_main_v173 val_main_v172
  generalize val_main_v169 (F := Ideal) x0 x1 x2 x3 = y
  pointwise []

/-- The scalar of the second map. -/
theorem v49_at (i : S_.Idx) : val_main_v49 (F := Ideal) x4 i = lamOf (fun a e => x4 (ix2 a e)) := by
  pointwise [val_main_v34, val_main_v35, val_main_v36, val_main_v37, val_main_v38, val_main_v39, val_main_v40, val_main_v41, val_main_v42, val_main_v43, val_main_v44, val_main_v45, val_main_v46, val_main_v47, val_main_v48, val_main_v49, val_main_cst_3, val_main_cst_4, val_main_cst_5]
  unfold lamOf
  rfl

/-- The difference of the two maps. -/
theorem v176_at (b : Fin 8) (n : Fin 4) (r : Fin 2048) (p : Fin 2304) :
    val_main_v176 (F := Ideal) x0 x1 x2 x3 x4 (ix4 b n r p) = val_main_v169 (F := Ideal) x0 x1 x2 x3 (ix5 b n 0 r p)
      - lamOf (fun a e => x4 (ix2 a e)) * val_main_v169 (F := Ideal) x0 x1 x2 x3 (ix5 b n 1 r p) := by
  rw [val_main_v176_apply, v171_at, val_main_v175_apply, v173_at, val_main_v174_apply, v49_at]
  rfl

theorem v177_at (b : Fin 8) (n : Fin 4) (r : Fin 2048) (d : Fin 128) :
    val_main_v177 (F := Ideal) x0 x1 x2 x3 x4 (ix4 b n r d) = ∑ p : Fin 2304,
      val_main_v176 (F := Ideal) x0 x1 x2 x3 x4 (ix4 b n r p) * val_main_v154 (F := Ideal) x0 x1 (ix4 b n p d) := by
  unfold val_main_v177
  generalize val_main_v176 (F := Ideal) x0 x1 x2 x3 x4 = y
  generalize val_main_v154 (F := Ideal) x0 x1 = z
  pointwise []

theorem v179_at (b : Fin 8) (n : Fin 4) (r : Fin 2048) :
    val_main_v179 (F := Ideal) x0 x1 x2 x3 x4 (ix3 b n r) =
      ∑ d : Fin 128, val_main_v178 (F := Ideal) x0 x1 x2 x3 x4 (ix4 b n r d) := by
  unfold val_main_v179 val_main_cst_19
  generalize val_main_v178 (F := Ideal) x0 x1 x2 x3 x4 = y
  pointwise []

theorem v178_at (b : Fin 8) (n : Fin 4) (r : Fin 2048) (d : Fin 128) :
    val_main_v178 (F := Ideal) x0 x1 x2 x3 x4 (ix4 b n r d) = val_main_v177 (F := Ideal) x0 x1 x2 x3 x4 (ix4 b n r d)
      * val_main_v177 (F := Ideal) x0 x1 x2 x3 x4 (ix4 b n r d) := by
  rw [val_main_v178_apply]
  generalize val_main_v177 (F := Ideal) x0 x1 x2 x3 x4 (ix4 b n r d) = z
  rfl

theorem v180_at (b : Fin 8) (n : Fin 4) (r : Fin 2048) :
    val_main_v180 (F := Ideal) x0 x1 x2 x3 x4 (ix4 b n r 0) = val_main_v179 (F := Ideal) x0 x1 x2 x3 x4 (ix3 b n r) := by
  unfold val_main_v180
  generalize val_main_v179 (F := Ideal) x0 x1 x2 x3 x4 = y
  pointwise []

theorem v186_at (b : Fin 8) (n : Fin 4) (r : Fin 2048) (d : Fin 128) :
    val_main_v186 (F := Ideal) x0 x1 x2 x3 x4 (ix4 b n r d) = val_main_v185 (F := Ideal) x0 x1 x2 x3 x4 (ix4 b n r 0) := by
  unfold val_main_v186
  generalize val_main_v185 (F := Ideal) x0 x1 x2 x3 x4 = y
  pointwise []

theorem v185_at (b : Fin 8) (n : Fin 4) (r : Fin 2048) :
    val_main_v185 (F := Ideal) x0 x1 x2 x3 x4 (ix4 b n r 0) = Ideal.rsqrt (Ideal.div (∑ d : Fin 128,
      val_main_v177 (F := Ideal) x0 x1 x2 x3 x4 (ix4 b n r d) * val_main_v177 (F := Ideal) x0 x1 x2 x3 x4 (ix4 b n r d))
        (Ideal.ofBits .f32 0x43000000#32) + Ideal.ofBits .f32 0x358637BD#32) := by
  rw [val_main_v185_apply, val_main_v184_apply, val_main_v182_apply, v180_at, v179_at, val_main_v181_apply, val_main_v183_apply,
    val_main_cst_20_apply, val_main_cst_21_apply]
  rw [Finset.sum_congr rfl fun d _ => v178_at x0 x1 x2 x3 x4 b n r d]
  generalize val_main_v177 (F := Ideal) x0 x1 x2 x3 x4 = y
  rfl

theorem v189_at (b : Fin 8) (n : Fin 4) (r : Fin 2048) (d : Fin 128) :
    val_main_v189 (F := Ideal) x5 (ix4 b n r d) = x5 (ix1 d) := by
  pointwise [val_main_v189, val_main_v188]

/-- A head's row, normalised and scaled. -/
theorem v192_at (b : Fin 8) (n : Fin 4) (r : Fin 2048) (d : Fin 128) :
    val_main_v192 (F := Ideal) x0 x1 x2 x3 x4 x5 (ix4 b n r d) =
      finish (fun d => val_main_v177 (F := Ideal) x0 x1 x2 x3 x4 (ix4 b n r d)) (fun e => x5 (ix1 e)) d := by
  rw [val_main_v192_apply, val_main_v190_apply, val_main_v187_apply, v186_at, v185_at, v189_at, val_main_v191_apply,
    val_main_cst_22_apply]
  generalize val_main_v177 (F := Ideal) x0 x1 x2 x3 x4 = y
  rfl

theorem v195_at (b : Fin 8) (r : Fin 2048) (n : Fin 4) (d : Fin 128) :
    val_main_v195 (F := Ideal) x0 x1 x2 x3 x4 x5 (ix3 b r ⟨n * 128 + d, by omega⟩) =
      val_main_v192 (F := Ideal) x0 x1 x2 x3 x4 x5 (ix4 b n r d) := by
  unfold val_main_v195 val_main_v194 val_main_v193
  generalize val_main_v192 (F := Ideal) x0 x1 x2 x3 x4 x5 = y
  pointwise []

end Cert.ReferenceIdeal.Value

end
-- ==== Proof.AttAgree.lean ====
module

public import proofs.«01_k».proof.Proof.AttFinal
public import proofs.«01_k».proof.Proof.RefAttRows
public import proofs.«01_k».proof.Proof.RefAttSoft

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Read
open Cert.ReferenceIdeal.Value (v114_at v148_at v31_at v101_at v135_at v152_at v155_at v154_at v158_at v161_at v165_at v169_at
  v176_at v177_at v192_at v195_at)

/-! On real inputs the program's result and the reference's agree, element by element. -/

variable (m : (ℓ : Loc nD τ sig) → Buf (Elt Ideal) ℓ) (ρ : Dev nD → PrngReg) (c : Dev nD)

/-- One device's arguments. -/
abbrev a0 : FVec Ideal S8x2048x5632 .f32 := m ((c : Thread nD τ).loc main_arg0)
abbrev a1 : FVec Ideal S8x256x5632 .f32 := m ((c : Thread nD τ).loc main_arg1)
abbrev a2 : FVec Ideal S2x64 .f32 := m ((c : Thread nD τ).loc main_arg2)
abbrev a3 : FVec Ideal S2x64 .f32 := m ((c : Thread nD τ).loc main_arg3)
abbrev a4 : FVec Ideal S4x64 .f32 := m ((c : Thread nD τ).loc main_arg4)
abbrev a5 : FVec Ideal S128 .f32 := m ((c : Thread nD τ).loc main_arg5)

/-- The arrays the grids read, as the host leaves them. -/
abbrev hx : FVec Ideal S8x2048x5632 .bf16 := V3 m ρ c main_v3
abbrev hc : FVec Ideal S8x256x5632 .bf16 := V3 m ρ c main_v7
abbrev hd : FVec Ideal S512x512 .bf16 := V3 m ρ c main_v18
abbrev hco : FVec Ideal S2048x512 .f32 := V3 m ρ c main_v63
abbrev hsi : FVec Ideal S2048x512 .f32 := V3 m ρ c main_v67
abbrev hgq : FVec Ideal S1x512 .f32 := V3 m ρ c main_v75
abbrev hgk : FVec Ideal S1x512 .f32 := V3 m ρ c main_v79
abbrev hgs : FVec Ideal S1x128 .f32 := V3 m ρ c main_v80

theorem hx_col (b : Fin 8) (r : Fin 2048) (j : ℕ) (d : ℕ) (hj : j < 5632) (hd : d < 2560) (e : j = 3072 + d) :
    hx m ρ c (ix3 b r ⟨j, hj⟩) = a0 m c (ix3 b r ⟨d, by omega⟩) := by
  subst e; exact v3_at m ρ c b r ⟨d, hd⟩

theorem hc_col (b : Fin 8) (r : Fin 256) (j : ℕ) (d : ℕ) (hj : j < 5632) (hd : d < 2560) (e : j = 3072 + d) :
    hc m ρ c (ix3 b r ⟨j, hj⟩) = a1 m c (ix3 b r ⟨d, by omega⟩) := by
  subst e; exact v7_at m ρ c b r ⟨d, hd⟩

theorem gq_at (n : Fin 4) (i : Fin 2) (e : Fin 64) (hw : n.val * 128 + i.val * 64 + e.val < 512) :
    hgq m ρ c (ix2 0 ⟨n * 128 + i * 64 + e, hw⟩) = a2 m c (ix2 i e) * ((1 / 8 / Real.log 2 : ℝ) : EReal) := by
  refine (v75_at m ρ c ⟨n * 128 + i * 64 + e, hw⟩).trans (congrArg₂ (· * ·) (congrArg (a2 m c) (congrArg₂ ix2 (Fin.ext ?_) (Fin.ext ?_))) ?_)
  · show (n.val * 128 + i.val * 64 + e.val) % 128 / 64 = i.val; omega
  · show (n.val * 128 + i.val * 64 + e.val) % 128 % 64 = e.val; omega
  · rw [bits_eighth, bits_two, Ideal.log_coe, if_neg (by norm_num), Ideal.div_coe (Real.log_pos (by norm_num)).ne', ← EReal.coe_mul]
    exact congrArg _ (by ring)

theorem gk_at (n : Fin 4) (i : Fin 2) (e : Fin 64) (hw : n.val * 128 + i.val * 64 + e.val < 512) :
    hgk m ρ c (ix2 0 ⟨n * 128 + i * 64 + e, hw⟩) = a3 m c (ix2 i e) * ((1 : ℝ) : EReal) := by
  rw [EReal.coe_one, mul_one]
  refine (v79_at m ρ c ⟨n * 128 + i * 64 + e, hw⟩).trans (congrArg (a3 m c) (congrArg₂ ix2 (Fin.ext ?_) (Fin.ext ?_)))
  · show (n.val * 128 + i.val * 64 + e.val) % 128 / 64 = i.val; omega
  · show (n.val * 128 + i.val * 64 + e.val) % 128 % 64 = e.val; omega

variable (X0 : S8x2048x5632.Idx → ℝ) (X1 : S8x256x5632.Idx → ℝ) (X2 X3 : S2x64.Idx → ℝ) (X4 : S4x64.Idx → ℝ)
  (h0 : ∀ i, a0 m c i = X0 i) (h1 : ∀ i, a1 m c i = X1 i) (h2 : ∀ i, a2 m c i = X2 i) (h3 : ∀ i, a3 m c i = X3 i)
  (h4 : ∀ i, a4 m c i = X4 i)

include h0 h2 in
/-- The kernel's queries are 1/(8 log 2) times the reference's. -/
theorem queries_agree (b : Fin 8) (r : Fin 2048) (n : Fin 4) (i : Fin 2) : ∃ q : Fin 64 → ℝ,
    (∀ e : Fin 64, prepRot 4096 (by decide) (hx m ρ c) (hgq m ρ c) (hd m ρ c) (hco m ρ c) (hsi m ρ c)
      (ix3 b r ⟨n * 128 + i * 64 + e, by omega⟩) = ((1 / 8 / Real.log 2 * q e : ℝ) : EReal))
    ∧ ∀ e : Fin 64, val_main_v101 (F := Ideal) (a0 m c) (a2 m c) (ix5 b r n i e) = q e := by
  obtain ⟨q, k1, k2⟩ := head_turn (fun w => hx m ρ c (ix3 b r ⟨4096 + w, by omega⟩)) (fun w => X0 (ix3 b r ⟨1024 + w, by omega⟩))
    (fun w => (hx_col m ρ c b r _ (1024 + w) _ (by omega) (by omega)).trans (h0 _)) (fun j w => hd m ρ c (ix2 j w)) (v18_at m ρ c)
    (fun w => hgq m ρ c (ix2 0 w)) (n * 128 + i * 64) (by omega) (by omega) (1 / 8 / Real.log 2) (fun e => a2 m c (ix2 i e))
    (fun e => X2 (ix2 i e)) (fun e => gq_at m ρ c n i e _) (fun e => h2 _) (fun w => hco m ρ c (ix2 r w)) (fun w => hsi m ρ c (ix2 r w)) r
    (v63_at m ρ c r) (v67_at m ρ c r)
  refine ⟨q, k1, fun e => ?_⟩
  rw [v101_at, ← k2 e]
  refine congrArg₂ (fun y a => turn y a e) (funext fun e => ?_) (funext fun j => funext fun f => v31_at r j f)
  rw [Cert.ReferenceIdeal.Value.v80_at]
  refine congrArg₂ (· * ·) (congrArg₂ (· * ·) ?_ (congrArg rms (funext fun e => ?_))) rfl
  · exact (hx_col m ρ c b r _ (1024 + (n * 128 + i * 64 + e)) _ (by omega) (by dsimp only; omega)).symm
  · exact (hx_col m ρ c b r _ (1024 + (n * 128 + i * 64 + e)) _ (by omega) (by dsimp only; omega)).symm

include h0 h3 in
/-- The kernel's keys of the tokens are the reference's. -/
theorem keys_agree (b : Fin 8) (r : Fin 2048) (n : Fin 4) (i : Fin 2) : ∃ q : Fin 64 → ℝ,
    (∀ e : Fin 64, prepRot 4608 (by decide) (hx m ρ c) (hgk m ρ c) (hd m ρ c) (hco m ρ c) (hsi m ρ c)
      (ix3 b r ⟨n * 128 + i * 64 + e, by omega⟩) = ((1 * q e : ℝ) : EReal))
    ∧ ∀ e : Fin 64, val_main_v135 (F := Ideal) (a0 m c) (a3 m c) (ix5 b r n i e) = q e := by
  obtain ⟨q, k1, k2⟩ := head_turn (fun w => hx m ρ c (ix3 b r ⟨4608 + w, by omega⟩)) (fun w => X0 (ix3 b r ⟨1536 + w, by omega⟩))
    (fun w => (hx_col m ρ c b r _ (1536 + w) _ (by omega) (by omega)).trans (h0 _)) (fun j w => hd m ρ c (ix2 j w)) (v18_at m ρ c)
    (fun w => hgk m ρ c (ix2 0 w)) (n * 128 + i * 64) (by omega) (by omega) 1 (fun e => a3 m c (ix2 i e))
    (fun e => X3 (ix2 i e)) (fun e => gk_at m ρ c n i e _) (fun e => h3 _) (fun w => hco m ρ c (ix2 r w)) (fun w => hsi m ρ c (ix2 r w)) r
    (v63_at m ρ c r) (v67_at m ρ c r)
  refine ⟨q, k1, fun e => ?_⟩
  rw [v135_at, ← k2 e]
  refine congrArg₂ (fun y a => turn y a e) (funext fun e => ?_) (funext fun j => funext fun f => v31_at r j f)
  rw [v114_at]
  refine congrArg₂ (· * ·) (congrArg₂ (· * ·) ?_ (congrArg rms (funext fun e => ?_))) rfl
  · exact (hx_col m ρ c b r _ (1536 + (n * 128 + i * 64 + e)) _ (by omega) (by dsimp only; omega)).symm
  · exact (hx_col m ρ c b r _ (1536 + (n * 128 + i * 64 + e)) _ (by omega) (by dsimp only; omega)).symm

include h1 h3 in
/-- The kernel's keys of the context are the reference's. -/
theorem context_agree (b : Fin 8) (r : Fin 256) (n : Fin 4) (i : Fin 2) : ∃ q : Fin 64 → ℝ,
    (∀ e : Fin 64, prepCtx 4608 (by decide) (hc m ρ c) (hgk m ρ c) (hd m ρ c)
      (ix3 b r ⟨n * 128 + i * 64 + e, by omega⟩) = ((1 * q e : ℝ) : EReal))
    ∧ ∀ e : Fin 64, val_main_v148 (F := Ideal) (a1 m c) (a3 m c) (ix5 b r n i e) = q e := by
  obtain ⟨q, k1, k2⟩ := head_norm (fun w => hc m ρ c (ix3 b r ⟨4608 + w, by omega⟩)) (fun w => X1 (ix3 b r ⟨1536 + w, by omega⟩))
    (fun w => (hc_col m ρ c b r _ (1536 + w) _ (by omega) (by omega)).trans (h1 _)) (fun j w => hd m ρ c (ix2 j w)) (v18_at m ρ c)
    (fun w => hgk m ρ c (ix2 0 w)) (n * 128 + i * 64) (by omega) (by omega) 1 (fun e => a3 m c (ix2 i e))
    (fun e => X3 (ix2 i e)) (fun e => gk_at m ρ c n i e _) (fun e => h3 _)
  refine ⟨q, k1, fun e => ?_⟩
  rw [v148_at, ← k2 e]
  refine congrArg₂ (· * ·) (congrArg₂ (· * ·) ?_ (congrArg rms (funext fun e => ?_))) rfl
  · exact (hc_col m ρ c b r _ (1536 + (n * 128 + i * 64 + e)) _ (by omega) (by dsimp only; omega)).symm
  · exact (hc_col m ρ c b r _ (1536 + (n * 128 + i * 64 + e)) _ (by omega) (by dsimp only; omega)).symm

/-- All the kernel's keys. -/
abbrev kk : FVec Ideal S8x2304x512 .bf16 :=
  allKeys (prepRot 4608 (by decide) (hx m ρ c) (hgk m ρ c) (hd m ρ c) (hco m ρ c) (hsi m ρ c))
    (prepCtx 4608 (by decide) (hc m ρ c) (hgk m ρ c) (hd m ρ c))

include h0 h1 h3 in
theorem all_keys_agree (b : Fin 8) (p : Fin 2304) (n : Fin 4) (i : Fin 2) : ∃ q : Fin 64 → ℝ,
    (∀ e : Fin 64, kk m ρ c (ix3 b p ⟨n * 128 + i * 64 + e, by omega⟩) = ((1 * q e : ℝ) : EReal))
    ∧ ∀ e : Fin 64, val_main_v152 (F := Ideal) (a0 m c) (a1 m c) (a3 m c) (ix5 b n p i e) = q e := by
  by_cases h : p.val < 2048
  · obtain ⟨q, k1, k2⟩ := keys_agree m ρ c X0 X3 h0 h3 b ⟨p, h⟩ n i
    refine ⟨q, fun e => (allKeys_lo _ _ b p _ h).trans (k1 e), fun e => ?_⟩
    rw [v152_at, dif_pos h]; exact k2 e
  · obtain ⟨q, k1, k2⟩ := context_agree m ρ c X1 X3 h1 h3 b ⟨p - 2048, by omega⟩ n i
    refine ⟨q, fun e => (allKeys_hi _ _ b p _ h).trans (k1 e), fun e => ?_⟩
    rw [v152_at, dif_neg h]; exact k2 e

include h0 h1 in
theorem values_agree (b : Fin 8) (p : Fin 2304) (n : Fin 4) (d : Fin 128) : ∃ v : ℝ,
    allValues (hx m ρ c) (hc m ρ c) (ix3 b p ⟨n * 256 + d, by omega⟩) = v
    ∧ val_main_v154 (F := Ideal) (a0 m c) (a1 m c) (ix4 b n p d) = v := by
  have hq : ((⟨n * 256 + d, by omega⟩ : Fin 1024) : ℕ) % 256 < 128 := by show (n.val * 256 + d.val) % 256 < 128; omega
  have he : 5120 + ((n.val * 256 + d.val) / 256 * 128 + (n.val * 256 + d.val) % 256 % 128) = 3072 + (2048 + (n.val * 128 + d.val)) := by omega
  by_cases h : p.val < 2048
  · refine ⟨X0 (ix3 b ⟨p, h⟩ ⟨2048 + (n * 128 + d), by omega⟩), ?_, ?_⟩
    · refine (allValues_lo _ _ b p _ hq h).trans ((hx_col m ρ c b ⟨p, h⟩ _ (2048 + (n * 128 + d)) _ (by omega) ?_).trans (h0 _))
      show 5120 + ((n.val * 256 + d.val) / 256 * 128 + (n.val * 256 + d.val) % 128) = _
      omega
    · rw [v154_at, dif_pos h]; exact h0 _
  · refine ⟨X1 (ix3 b ⟨p - 2048, by omega⟩ ⟨2048 + (n * 128 + d), by omega⟩), ?_, ?_⟩
    · refine (allValues_hi _ _ b p _ hq h).trans
        ((hc_col m ρ c b ⟨p - 2048, by omega⟩ _ (2048 + (n * 128 + d)) _ (by omega) ?_).trans (h1 _))
      show 5120 + ((n.val * 256 + d.val) / 256 * 128 + (n.val * 256 + d.val) % 128) = _
      omega
    · rw [v154_at, dif_neg h]; exact h1 _

theorem ones_at (b : Fin 8) (p : Fin 2304) (n : Fin 4) : allValues (hx m ρ c) (hc m ρ c)
    (ix3 b p ⟨n * 256 + (128 : Fin 256), by show n.val * 256 + 128 < 1024; omega⟩) = 1 := by
  refine (allValues_one _ _ b p _ ?_).trans Ideal.ofBits_one_bf16
  show ¬ (n.val * 256 + 128) % 256 < 128
  omega

include h0 h1 h2 h3 h4 in
/-- One element of the result. -/
theorem element_agree (b : Fin 8) (r : Fin 2048) (n : Fin 4) (d : Fin 128) :
    val_main_v195 (F := Ideal) (a0 m c) (a1 m c) (a2 m c) (a3 m c) (a4 m c) (a5 m c) (ix3 b r ⟨n * 128 + d, by omega⟩)
      = attention (prepRot 4096 (by decide) (hx m ρ c) (hgq m ρ c) (hd m ρ c) (hco m ρ c) (hsi m ρ c)) (kk m ρ c)
          (allValues (hx m ρ c) (hc m ρ c)) (a4 m c) (hgs m ρ c) (ix3 b r ⟨n * 128 + d, by omega⟩) := by
  choose Q q1 q2 using queries_agree m ρ c X0 X2 h0 h2 b r n
  choose K k1 k2 using fun p => all_keys_agree m ρ c X0 X1 X3 h0 h1 h3 b p n
  choose V v1 v2 using fun p => values_agree m ρ c X0 X1 h0 h1 b p n
  rw [attention_at _ _ _ _ _ b r n n.isLt d]
  refine Eq.trans ?_ (attRow_real _ _ _ _ _ Q K V (fun a e => X4 (ix2 a e)) (fun i e => ?_) (fun p i e => ?_) (fun p d => ?_)
    (fun p => ?_) (fun a e => h4 _) d).symm
  · rw [v195_at, v192_at]
    refine congrArg₂ (fun o g => finish o g d) (funext fun d => ?_) (funext fun e => (v80_at m ρ c e).symm)
    rw [v177_at]
    refine Finset.sum_congr rfl fun p _ => ?_
    have hs : ∀ (i : Fin 2) (p : Fin 2304), val_main_v158 (F := Ideal) (a0 m c) (a1 m c) (a2 m c) (a3 m c) (ix5 b n i r p)
        = (((∑ e, Q i e * K p i e) * (1 / 8) : ℝ) : EReal) := fun i p => by
      rw [v158_at, bits_eighth, EReal.coe_mul, ← sum_coe]
      refine congrArg (· * _) (Finset.sum_congr rfl fun e _ => ?_)
      rw [v155_at, q2, k2, EReal.coe_mul]
    have hw : ∀ (i : Fin 2), val_main_v169 (F := Ideal) (a0 m c) (a1 m c) (a2 m c) (a3 m c) (ix5 b n i r p)
        = ((soft (fun p => (∑ e, Q i e * K p i e) * (1 / 8)) p : ℝ) : EReal) := fun i => by
      rw [v169_at]
      simp only [v165_at, v161_at, bits_bot]
      exact weight_real _ _ (hs i) p
    rw [v176_at, hw, hw, v2]
  · refine Eq.trans ?_ (q1 i e)
    exact congrArg (fun z => prepRot 4096 (by decide) (hx m ρ c) (hgq m ρ c) (hd m ρ c) (hco m ρ c) (hsi m ρ c) (ix3 b r z))
      (Fin.ext (by show n.val * 128 + (i.val * 64 + e.val) = n.val * 128 + i.val * 64 + e.val; omega))
  · refine Eq.trans ?_ ((k1 p i e).trans (congrArg _ (one_mul _)))
    exact congrArg (fun z => kk m ρ c (ix3 b p z))
      (Fin.ext (by show n.val * 128 + (i.val * 64 + e.val) = n.val * 128 + i.val * 64 + e.val; omega))
  · exact v1 p d
  · exact ones_at m ρ c b p n

include h0 h1 h2 h3 h4 in
/-- The whole result. -/
theorem result_agree : val_main_v195 (F := Ideal) (a0 m c) (a1 m c) (a2 m c) (a3 m c) (a4 m c) (a5 m c)
    = W7 m ρ c (Proc.devRef .tc main_v84) := by
  refine Eq.trans (funext fun y => ?_) (final7 m ρ c).symm
  idx_vars y
  have e : y2 = ⟨(⟨(y2 : ℕ) / 128, by omega⟩ : Fin 4) * 128 + (⟨(y2 : ℕ) % 128, by omega⟩ : Fin 128), by
      show (y2 : ℕ) / 128 * 128 + (y2 : ℕ) % 128 < 512; omega⟩ :=
    Fin.ext (by show (y2 : ℕ) = (y2 : ℕ) / 128 * 128 + (y2 : ℕ) % 128; omega)
  rw [e]
  exact element_agree m ρ c X0 X1 X2 X3 X4 h0 h1 h2 h3 h4 y0 y1 _ _

end Cert.KernelIdeal.Value

end
-- ==== Proof.AttRun.lean ====
module

public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program runs to an end; its result holds what its last grid leaves there, and its arguments are as they were
    given. -/
theorem run_main : θ_run defs (onTc (τ := τ) (main (F := F))) ⟨m, fun _ => 0, ρ⟩ (fun r => ∀ c : Dev nD,
      r.2.mem ((c.tc : Thread nD τ).loc main_v84) = W7 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v84 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Value

end
-- ==== Proof.Algebraic1.lean ====
module

public import proofs.«01_k».proof.Proof.FiniteInputs
public import proofs.«01_k».proof.Proof.AttAgree
public import proofs.«01_k».proof.Proof.AttRun
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof

open Idealize.ShloMosaic Idealize.SL.Sem

/-- On finite inputs the differential attention and its reference leave the same array. -/
theorem algebraic_attention : Cert.algebraic_KernelIdeal_ReferenceIdeal_pre_finite_inputs
    (hKernelIdeal := Cert.KernelIdeal.Gen.facts) (hReferenceIdeal := Cert.ReferenceIdeal.Gen.facts)
    (hPre_finite_inputs := Cert.Pre_finite_inputs.Gen.facts) := by
  pair_intro
  · run_from Cert.KernelIdeal.Value.run_main m g
  · run_from Cert.ReferenceIdeal.Value.run m' g'
    obtain ⟨e0, e1, e2, e3, e4, e5⟩ := hagree c
    rw [← e5]
    refine (Cert.ReferenceIdeal.Read.val_main_v195_eq (StableHlo.launchContents m' c)).trans ?_
    obtain ⟨p0, p1, p2, p3, p4⟩ := hpre c
    obtain ⟨X0, h0⟩ := inputs_real0 _ _ _ _ _ _ p0
    obtain ⟨X1, h1⟩ := inputs_real1 _ _ _ _ _ _ p1
    obtain ⟨X2, h2⟩ := inputs_real2 _ _ _ _ _ _ p2
    obtain ⟨X3, h3⟩ := inputs_real3 _ _ _ _ _ _ p3
    obtain ⟨X4, h4⟩ := inputs_real4 _ _ _ _ _ _ p4
    have key := Cert.KernelIdeal.Value.result_agree m g c X0 X1 X2 X3 X4 h0 h1 h2 h3 h4
    unfold Cert.KernelIdeal.Value.a0 Cert.KernelIdeal.Value.a1 Cert.KernelIdeal.Value.a2 Cert.KernelIdeal.Value.a3
      Cert.KernelIdeal.Value.a4 Cert.KernelIdeal.Value.a5 at key
    rw [← e0, ← e1, ← e2, ← e3, ← e4, ← e5] at key
    exact key

end Cert.Proof

end
-- ==== Proof.FiniteTokens.lean ====
module

public import proofs.«01_k».proof.Proof.FiniteInputs
public import proofs.«01_k».proof.Proof.Gen.Pre_finite_tokens

@[expose] public section

set_option maxRecDepth 16384

noncomputable section

namespace Cert.Proof

open Idealize.ShloMosaic Cert.Pre_finite_tokens

/-! The scores' precondition, element by element. -/

variable (x0 : FVec Ideal S8x2048x1024 .f32) (x1 : FVec Ideal S1024 .f32) (x2 : FVec Ideal S8x6144 .f32)
  (x3 : FVec Ideal S1024x2048 .f32) (x4 : FVec Ideal S8x2x128x128 .f32)

theorem tokens_real0 (h : (fn (F := Ideal) x0 x1 x2 x3 x4).1 = fun _ => 1#1) (i : S8x2048x1024.Idx) : ∃ r : ℝ, x0 i = r :=
  real_of_lt (congrFun h i)

theorem tokens_real1 (h : (fn (F := Ideal) x0 x1 x2 x3 x4).2.1 = fun _ => 1#1) (i : S1024.Idx) : ∃ r : ℝ, x1 i = r :=
  real_of_lt (congrFun h i)

theorem tokens_real2 (h : (fn (F := Ideal) x0 x1 x2 x3 x4).2.2.1 = fun _ => 1#1) (i : S8x6144.Idx) : ∃ r : ℝ, x2 i = r :=
  real_of_lt (congrFun h i)

theorem tokens_real3 (h : (fn (F := Ideal) x0 x1 x2 x3 x4).2.2.2.1 = fun _ => 1#1) (i : S1024x2048.Idx) : ∃ r : ℝ, x3 i = r :=
  real_of_lt (congrFun h i)

theorem tokens_real4 (h : (fn (F := Ideal) x0 x1 x2 x3 x4).2.2.2.2 = fun _ => 1#1) (i : S8x2x128x128.Idx) : ∃ r : ℝ, x4 i = r :=
  real_of_lt (congrFun h i)

end Cert.Proof

end
-- ==== Proof.ScoresStores.lean ====
module

public import proofs.«01_k».proof.Proof.Gen.ScoresIdeal.Frame
public import Idealize.ShloMosaic.Lib.Pipeline.ValueKit

@[expose] public section

set_option maxRecDepth 16384

noncomputable section

namespace Cert.ScoresIdeal.Value

open Cert.ScoresIdeal Cert.ScoresIdeal.Gen Idealize.ShloMosaic Idealize.ShloMosaic.TcCoe Idealize.SL.Sem

/-! The sixteen stores of the scores' body: each takes 128 columns of the queries against one half of one head's keys. -/

/-- A query against a key that comes as a high and a low half, the query's own low half taken against the high one. -/
def split (q kh kl : Fin 128 → EReal) : EReal := ∑ d, q d * kh d + ∑ d, (q d - q d) * kh d + ∑ d, q d * kl d

/-- The query columns of one store. -/
def qcol (P : FVec Ideal S512x2048 .f32) (r : Fin 512) (p : Fin 16) (d : Fin 128) : EReal :=
  P (ix2 r ⟨p * 128 + d, by omega⟩)

variable (P : FVec Ideal S512x2048 .f32) (A B : FVec Ideal S1x128x128 .bf16) (b : Fin 1) (k : Fin 128) (r : Fin 512)

theorem store0_at : k0_pay5 (F := Ideal) P A B (ix3 b k r) =
    split (qcol P r 0) (fun d => A (ix3 0 d k)) (fun d => B (ix3 0 d k)) := by
  pointwise [k0_pay5]
  rfl

theorem store1_at : k0_pay7 (F := Ideal) (k0_pay6 P A B) (ix3 b k r) =
    split (qcol P r 1) (fun d => A (ix3 0 d k)) (fun d => B (ix3 0 d k)) := by
  pointwise [k0_pay7, k0_pay6]
  rfl

theorem store2_at : k0_pay8 (F := Ideal) P A B (ix3 b k r) =
    split (qcol P r 2) (fun d => A (ix3 0 d k)) (fun d => B (ix3 0 d k)) := by
  pointwise [k0_pay8]
  rfl

theorem store3_at : k0_pay10 (F := Ideal) (k0_pay9 P A B) (ix3 b k r) =
    split (qcol P r 3) (fun d => A (ix3 0 d k)) (fun d => B (ix3 0 d k)) := by
  pointwise [k0_pay10, k0_pay9]
  rfl

theorem store4_at : k0_pay11 (F := Ideal) P A B (ix3 b k r) =
    split (qcol P r 4) (fun d => A (ix3 0 d k)) (fun d => B (ix3 0 d k)) := by
  pointwise [k0_pay11]
  rfl

theorem store5_at : k0_pay13 (F := Ideal) (k0_pay12 P A B) (ix3 b k r) =
    split (qcol P r 5) (fun d => A (ix3 0 d k)) (fun d => B (ix3 0 d k)) := by
  pointwise [k0_pay13, k0_pay12]
  rfl

theorem store6_at : k0_pay14 (F := Ideal) P A B (ix3 b k r) =
    split (qcol P r 6) (fun d => A (ix3 0 d k)) (fun d => B (ix3 0 d k)) := by
  pointwise [k0_pay14]
  rfl

theorem store7_at : k0_pay16 (F := Ideal) (k0_pay15 P A B) (ix3 b k r) =
    split (qcol P r 7) (fun d => A (ix3 0 d k)) (fun d => B (ix3 0 d k)) := by
  pointwise [k0_pay16, k0_pay15]
  rfl

theorem store8_at : k0_pay17 (F := Ideal) P A B (ix3 b k r) =
    split (qcol P r 8) (fun d => A (ix3 0 d k)) (fun d => B (ix3 0 d k)) := by
  pointwise [k0_pay17]
  rfl

theorem store9_at : k0_pay22 (F := Ideal) (k0_pay19 P) (k0_pay20 P A) (k0_pay21 B) (constant S512x128 .f32 0x00000000#32) (ix3 b k r) =
    split (qcol P r 9) (fun d => A (ix3 0 d k)) (fun d => B (ix3 0 d k)) := by
  pointwise [k0_pay22, k0_pay19, k0_pay20, k0_pay21, k0_pay18]
  rfl

theorem store10_at : k0_pay23 (F := Ideal) P A B (ix3 b k r) =
    split (qcol P r 10) (fun d => A (ix3 0 d k)) (fun d => B (ix3 0 d k)) := by
  pointwise [k0_pay23]
  rfl

theorem store11_at : k0_pay27 (F := Ideal) (k0_pay25 P) (k0_pay26 P A) B (ix3 b k r) =
    split (qcol P r 11) (fun d => A (ix3 0 d k)) (fun d => B (ix3 0 d k)) := by
  pointwise [k0_pay27, k0_pay25, k0_pay26, k0_pay24]
  rfl

theorem store12_at : k0_pay28 (F := Ideal) P A B (ix3 b k r) =
    split (qcol P r 12) (fun d => A (ix3 0 d k)) (fun d => B (ix3 0 d k)) := by
  pointwise [k0_pay28]
  rfl

theorem store13_at : k0_pay32 (F := Ideal) (k0_pay30 P) (k0_pay31 P A) B (ix3 b k r) =
    split (qcol P r 13) (fun d => A (ix3 0 d k)) (fun d => B (ix3 0 d k)) := by
  pointwise [k0_pay32, k0_pay30, k0_pay31, k0_pay29]
  rfl

theorem store14_at : k0_pay33 (F := Ideal) P A B (ix3 b k r) =
    split (qcol P r 14) (fun d => A (ix3 0 d k)) (fun d => B (ix3 0 d k)) := by
  pointwise [k0_pay33]
  rfl

theorem store15_at : k0_pay1 (F := Ideal) (k0_pay35 P) (k0_pay36 P A) B (ix3 b k r) =
    split (qcol P r 15) (fun d => A (ix3 0 d k)) (fun d => B (ix3 0 d k)) := by
  pointwise [k0_pay1, k0_pay35, k0_pay36, k0_pay34]
  rfl

end Cert.ScoresIdeal.Value

end
-- ==== Proof.ScoresRegion.lean ====
module

public import proofs.«01_k».proof.Proof.ScoresStores
public import proofs.«01_k».proof.Proof.ProjRegion

@[expose] public section

set_option maxRecDepth 16384

noncomputable section

namespace Cert.ScoresIdeal.Value

open Cert.ScoresIdeal Cert.ScoresIdeal.Gen Idealize.ShloMosaic Idealize.ShloMosaic.TcCoe Idealize.SL.Sem
open Idealize.ShloMosaic.Pipeline (Dat)
open Cert.ProjectionIdeal.Value (xnRow xnRow_congr)

theorem pay2_at (x : FVec Ideal S1x512x1024 .f32) (g : FVec Ideal S1x1024 .f32) (sh sc : FVec Ideal S1x1x1x1x1024 .f32)
    (r : Fin 512) (j : Fin 1024) :
    k0_pay2 (F := Ideal) x g sh sc (ix2 r j) = xnRow (fun e => x (ix3 0 r e)) (fun e => g (ix2 0 e))
      (fun e => sh (ix5 0 0 0 0 e)) (fun e => sc (ix5 0 0 0 0 e)) j := by
  pointwise [k0_pay2]
  rfl

theorem pay3_at (x : FVec Ideal S1x512x1024 .f32) (g : FVec Ideal S1x1024 .f32) (sh sc : FVec Ideal S1x1x1x1x1024 .f32)
    (j : Fin 1024) (r : Fin 512) : k0_pay3 (F := Ideal) x g sh sc (ix2 j r) = k0_pay2 (F := Ideal) x g sh sc (ix2 r j) := by
  unfold k0_pay3
  generalize k0_pay2 (F := Ideal) x g sh sc = n
  pointwise []

theorem pay4_at (x : FVec Ideal S1x512x1024 .f32) (g : FVec Ideal S1x1024 .f32) (sh sc : FVec Ideal S1x1x1x1x1024 .f32)
    (w : FVec Ideal S1024x2048 .bf16) (r : Fin 512) (d : Fin 2048) : k0_pay4 (F := Ideal) x g sh sc w (ix2 r d) =
      ∑ j : Fin 1024, k0_pay2 (F := Ideal) x g sh sc (ix2 r j) * w (ix2 j d) := by
  unfold k0_pay4
  generalize k0_pay2 (F := Ideal) x g sh sc = n
  pointwise []

variable (m : (ℓ : Loc nD τ sig) → Buf (Elt Ideal) ℓ)

theorem idx0 : ∀ t : Fin cfg0.N,
    win0_0.index t = ![t.val / 4, t.val % 4, 0] ∧ win0_1.index t = ![0, 0]
    ∧ win0_2.index t = ![0, t.val / 4, 3, 0, 0] ∧ win0_3.index t = ![0, t.val / 4, 4, 0, 0]
    ∧ win0_4.index t = ![0, 0] ∧ win0_5.index t = ![0, 0, 0] ∧ win0_6.index t = ![0, 0, 0]
    ∧ win0_7.index t = ![0, 0, t.val] ∧ win0_8.index t = ![0, t.val] ∧ t.val < 32 :=
  (by decide +kernel : ∀ t : Fin grid0.N, _)

theorem lt0 (t : Fin cfg0.N) : t.val < 32 := (idx0 t).2.2.2.2.2.2.2.2.2

theorem emb0_7 (t : Fin cfg0.N) (p : Fin 16) (k : Fin 128) (r : Fin 512) :
    ((cfg0.win 7).blk t).view.emb (ix3 p k r) = ix3 p k ⟨t.val * 512 + r, by have := lt0 t; omega⟩ := by
  blk_ext [idx0 t]

theorem emb0_8 (t : Fin cfg0.N) (j : Fin 1024) (r : Fin 512) :
    ((cfg0.win 8).blk t).view.emb (ix2 j r) = ix2 j ⟨t.val * 512 + r, by have := lt0 t; omega⟩ := by
  blk_ext [idx0 t]

theorem read0_0 (c : Dev nD) (t : Fin cfg0.N) (b : Fin 1) (r : Fin 512) (d : Fin 1024) :
    (show FVec Ideal S1x512x1024 .f32 from iblk m c 0 t) (ix3 b r d) =
      (show FVec Ideal S8x2048x1024 .f32 from m ((c : Thread nD τ).loc main_arg0))
      (ix3 ⟨t.val / 4, by have := lt0 t; omega⟩ ⟨t.val % 4 * 512 + r, by omega⟩ d) := by
  rw [← V_main_arg0 m c]
  blk_ext [iblk, idx0 t]

theorem read0_1 (c : Dev nD) (t : Fin cfg0.N) (b : Fin 1) (d : Fin 1024) :
    (show FVec Ideal S1x1024 .f32 from iblk m c 1 t) (ix2 b d) =
      (show FVec Ideal S1x1024 .f32 from V m c main_v6) (ix2 b d) := by
  blk_ext [iblk, idx0 t]

theorem read0_2 (c : Dev nD) (t : Fin cfg0.N) (d : Fin 1024) :
    (show FVec Ideal S1x1x1x1x1024 .f32 from iblk m c 2 t) (ix5 0 0 0 0 d) =
      (show FVec Ideal S1x16x6x1x1024 .f32 from V m c main_v9) (ix5 0 ⟨t.val / 4, by have := lt0 t; omega⟩ 3 0 d) := by
  blk_ext [iblk, idx0 t]

theorem read0_3 (c : Dev nD) (t : Fin cfg0.N) (d : Fin 1024) :
    (show FVec Ideal S1x1x1x1x1024 .f32 from iblk m c 3 t) (ix5 0 0 0 0 d) =
      (show FVec Ideal S1x16x6x1x1024 .f32 from V m c main_v9) (ix5 0 ⟨t.val / 4, by have := lt0 t; omega⟩ 4 0 d) := by
  blk_ext [iblk, idx0 t]

theorem read0_4 (c : Dev nD) (t : Fin cfg0.N) (r : Fin 1024) (d : Fin 2048) :
    (show FVec Ideal S1024x2048 .bf16 from iblk m c 4 t) (ix2 r d) =
      (show FVec Ideal S1024x2048 .bf16 from V m c main_v10) (ix2 r d) := by
  blk_ext [iblk, idx0 t]

theorem read0_5 (c : Dev nD) (t : Fin cfg0.N) (p : Fin 16) (d k : Fin 128) :
    (show FVec Ideal S16x128x128 .bf16 from iblk m c 5 t) (ix3 p d k) =
      (show FVec Ideal S16x128x128 .bf16 from V m c main_v2) (ix3 p d k) := by
  blk_ext [iblk, idx0 t]

theorem read0_6 (c : Dev nD) (t : Fin cfg0.N) (p : Fin 16) (d k : Fin 128) :
    (show FVec Ideal S16x128x128 .bf16 from iblk m c 6 t) (ix3 p d k) =
      (show FVec Ideal S16x128x128 .bf16 from V m c main_v5) (ix3 p d k) := by
  blk_ext [iblk, idx0 t]

theorem host6 (c : Dev nD) (b : Fin 1) (d : Fin 1024) :
    (show FVec Ideal S1x1024 .f32 from V m c main_v6) (ix2 b d) =
      (show FVec Ideal S1024 .f32 from m ((c : Thread nD τ).loc main_arg1)) (ix1 d) := by
  entry_read
  pointwise []

theorem host9 (c : Dev nD) (b : Fin 8) (a : Fin 6) (d : Fin 1024) :
    (show FVec Ideal S1x16x6x1x1024 .f32 from V m c main_v9) (ix5 0 ⟨b, by omega⟩ a 0 d) =
      (show FVec Ideal S8x6144 .f32 from m ((c : Thread nD τ).loc main_arg2)) (ix2 b ⟨a * 1024 + d, by omega⟩) := by
  entry_read
  pointwise []

theorem host10 (c : Dev nD) (r : Fin 1024) (d : Fin 2048) :
    (show FVec Ideal S1024x2048 .bf16 from V m c main_v10) (ix2 r d) =
      (show FVec Ideal S1024x2048 .f32 from m ((c : Thread nD τ).loc main_arg3)) (ix2 r d) := by
  entry_read
  pointwise []

theorem host2 (c : Dev nD) (p : Fin 16) (d k : Fin 128) :
    (show FVec Ideal S16x128x128 .bf16 from V m c main_v2) (ix3 p d k) =
      (show FVec Ideal S8x2x128x128 .f32 from m ((c : Thread nD τ).loc main_arg4))
        (ix4 ⟨p / 2, by omega⟩ ⟨p % 2, by omega⟩ k d) := by
  entry_read
  pointwise []

theorem host5 (c : Dev nD) (p : Fin 16) (d k : Fin 128) :
    (show FVec Ideal S16x128x128 .bf16 from V m c main_v5) (ix3 p d k) =
      (show FVec Ideal S8x2x128x128 .f32 from m ((c : Thread nD τ).loc main_arg4))
        (ix4 ⟨p / 2, by omega⟩ ⟨p % 2, by omega⟩ k d)
      - (show FVec Ideal S8x2x128x128 .f32 from m ((c : Thread nD τ).loc main_arg4))
        (ix4 ⟨p / 2, by omega⟩ ⟨p % 2, by omega⟩ k d) := by
  entry_read
  pointwise []

end Cert.ScoresIdeal.Value

end
-- ==== Proof.ScoresFinal.lean ====
module

public import proofs.«01_k».proof.Proof.ScoresRegion
public import Idealize.ShloMosaic.Lib.Claim

@[expose] public section

set_option maxRecDepth 16384

noncomputable section

namespace Cert.ScoresIdeal.Value

open Cert.ScoresIdeal Cert.ScoresIdeal.Gen Idealize.ShloMosaic Idealize.ShloMosaic.TcCoe Idealize.SL.Sem
open Idealize.ShloMosaic.Pipeline (Dat)
open Cert.ProjectionIdeal.Value (xnRow xnRow_congr)

/-- The modulated norm of every token, one column a token. -/
def tokens (x : FVec Ideal S8x2048x1024 .f32) (g : FVec Ideal S1024 .f32) (md : FVec Ideal S8x6144 .f32) :
    FVec Ideal S1024x16384 .bf16 := fun i =>
  xnRow (fun e => x (ix3 ⟨(i 1 : ℕ) / 2048, by have h : (i 1 : ℕ) < 16384 := (i 1).isLt; omega⟩ ⟨(i 1 : ℕ) % 2048, by omega⟩ e))
    (fun e => g (ix1 e))
    (fun e => md (ix2 ⟨(i 1 : ℕ) / 2048, by have h : (i 1 : ℕ) < 16384 := (i 1).isLt; omega⟩ ⟨3072 + e, by omega⟩))
    (fun e => md (ix2 ⟨(i 1 : ℕ) / 2048, by have h : (i 1 : ℕ) < 16384 := (i 1).isLt; omega⟩ ⟨4096 + e, by omega⟩)) (i 0)

/-- One column of the queries of one token. -/
def query (n : FVec Ideal S1024x16384 .bf16) (w : FVec Ideal S1024x2048 .f32) (t : Fin 16384) (p : Fin 16) (d : Fin 128) : EReal :=
  ∑ j : Fin 1024, n (ix2 j t) * w (ix2 j ⟨p * 128 + d, by omega⟩)

/-- The key of one half of one head. -/
def key (ks : FVec Ideal S8x2x128x128 .f32) (p : Fin 16) (k d : Fin 128) : EReal :=
  ks (ix4 ⟨p / 2, by omega⟩ ⟨p % 2, by omega⟩ k d)

/-- Every token's queries against every key. -/
def scores (n : FVec Ideal S1024x16384 .bf16) (w : FVec Ideal S1024x2048 .f32) (ks : FVec Ideal S8x2x128x128 .f32) :
    FVec Ideal S16x128x16384 .f32 := fun i =>
  split (query n w (i 2) (i 0)) (key ks (i 0) (i 1)) (fun d => key ks (i 0) (i 1) d - key ks (i 0) (i 1) d)

variable (m : (ℓ : Loc nD τ sig) → Buf (Elt Ideal) ℓ)

/-- The tokens of a core's arguments. -/
abbrev toks (c : Dev nD) : FVec Ideal S1024x16384 .bf16 := tokens (m ((c : Thread nD τ).loc main_arg0))
  (m ((c : Thread nD τ).loc main_arg1)) (m ((c : Thread nD τ).loc main_arg2))

theorem rows_eq (c : Dev nD) (t : Fin cfg0.N) (r : Fin 512) (j : Fin 1024) :
    k0_pay2 (F := Ideal) (iblk m c 0 t) (iblk m c 1 t) (iblk m c 2 t) (iblk m c 3 t) (ix2 r j) =
      toks m c (ix2 j ⟨t.val * 512 + r, by have := lt0 t; omega⟩) := by
  have ht := lt0 t
  have e1 : (t.val * 512 + r.val) / 2048 = t.val / 4 := by omega
  have e2 : (t.val * 512 + r.val) % 2048 = t.val % 4 * 512 + r.val := by omega
  refine (pay2_at _ _ _ _ r j).trans (xnRow_congr (fun e => (read0_0 m c t _ _ _).trans (congrArg _ ?_))
    (fun e => (read0_1 m c t _ _).trans (host6 m c _ _)) (fun e => (read0_2 m c t _).trans ?_)
    (fun e => (read0_3 m c t _).trans ?_) j)
  · exact congrArg₂ (fun a b => ix3 a b e) (Fin.ext e1.symm) (Fin.ext e2.symm)
  · exact (host9 m c ⟨t.val / 4, by omega⟩ 3 e).trans (congrArg _ (congrArg₂ ix2 (Fin.ext e1.symm) (Fin.ext rfl)))
  · exact (host9 m c ⟨t.val / 4, by omega⟩ 4 e).trans (congrArg _ (congrArg₂ ix2 (Fin.ext e1.symm) (Fin.ext rfl)))

theorem final0_8 (c : Dev nD) : (dats m 0 c).arrAt 8 cfg0.N = toks m c := by
  refine (dats m 0 c).arrAt_eq_of_covers 8 _ (by decide +kernel) fun t _ y => ?_
  blk_simp
  rw [after0_8]
  unfold out0_8
  frame_out
  idx_vars y
  refine (pay3_at _ _ _ _ _ _).trans (Eq.trans ?_ (congrArg (toks m c) (emb0_8 t _ _)).symm)
  exact rows_eq m c t _ _

/-- What one block of the scores holds, from its queries and the two halves of the keys. -/
def blockScores (P : FVec Ideal S512x2048 .f32) (A B : FVec Ideal S16x128x128 .bf16) : FVec Ideal S16x128x512 .f32 := fun y =>
  split (qcol P (y 2) (y 0)) (fun d => A (ix3 (y 0) d (y 1))) (fun d => B (ix3 (y 0) d (y 1)))

theorem split_congr {q q' a a' b b' : Fin 128 → EReal} (hq : ∀ d, q d = q' d) (ha : ∀ d, a d = a' d) (hb : ∀ d, b d = b' d) :
    split q a b = split q' a' b' := by
  obtain rfl : q = q' := funext hq
  obtain rfl : a = a' := funext ha
  obtain rfl : b = b' := funext hb
  rfl

/-- A store of queries against the keys of half-head `p` is the block's entry there. -/
theorem piece_eq (P : FVec Ideal S512x2048 .f32) (A B : FVec Ideal S16x128x128 .bf16) (y : S16x128x512.Idx) (p : Fin 16)
    (k : Fin 128) (r : Fin 512) (h0 : (y 0 : ℕ) = p) (h1 : (y 1 : ℕ) = k) (h2 : (y 2 : ℕ) = r) {a b : Fin 128 → EReal}
    (ha : ∀ d, a d = A (ix3 p d k)) (hb : ∀ d, b d = B (ix3 p d k)) : split (qcol P r p) a b = blockScores P A B y := by
  obtain rfl : y = ix3 p k r := by
    funext q
    match q with
    | ⟨0, _⟩ => exact Fin.ext h0
    | ⟨1, _⟩ => exact Fin.ext h1
    | ⟨2, _⟩ => exact Fin.ext h2
  exact split_congr (fun _ => rfl) ha hb

theorem queries_eq (c : Dev nD) (t : Fin cfg0.N) (r : Fin 512) (p : Fin 16) (d : Fin 128) :
    qcol (k0_pay4 (F := Ideal) (iblk m c 0 t) (iblk m c 1 t) (iblk m c 2 t) (iblk m c 3 t) (iblk m c 4 t)) r p d =
      query (toks m c) (m ((c : Thread nD τ).loc main_arg3)) ⟨t.val * 512 + r, by have := lt0 t; omega⟩ p d :=
  (pay4_at _ _ _ _ _ r _).trans (Finset.sum_congr rfl fun j _ => congrArg₂ (· * ·) (rows_eq m c t r j)
    ((read0_4 m c t j _).trans (host10 m c j _)))

theorem block_eq (c : Dev nD) (t : Fin cfg0.N) (p : Fin 16) (k : Fin 128) (r : Fin 512) :
    blockScores (k0_pay4 (F := Ideal) (iblk m c 0 t) (iblk m c 1 t) (iblk m c 2 t) (iblk m c 3 t) (iblk m c 4 t))
      (iblk m c 5 t) (iblk m c 6 t) (ix3 p k r) = scores (toks m c) (m ((c : Thread nD τ).loc main_arg3))
        (m ((c : Thread nD τ).loc main_arg4)) (ix3 p k ⟨t.val * 512 + r, by have := lt0 t; omega⟩) :=
  split_congr (queries_eq m c t r p) (fun d => (read0_5 m c t p d k).trans (host2 m c p d k))
    (fun d => (read0_6 m c t p d k).trans (host5 m c p d k))

theorem final0_7 (c : Dev nD) : (dats m 0 c).arrAt 7 cfg0.N = scores (toks m c) (m ((c : Thread nD τ).loc main_arg3))
    (m ((c : Thread nD τ).loc main_arg4)) := by
  refine (dats m 0 c).arrAt_eq_of_covers 7 _ (by decide +kernel) fun t _ y => ?_
  blk_simp
  rw [after0_7]
  unfold out0_7 k0_pay37
  frame_out
  refine Eq.trans (b := blockScores (k0_pay4 (F := Ideal) (iblk m c 0 t) (iblk m c 1 t) (iblk m c 2 t) (iblk m c 3 t) (iblk m c 4 t))
      (iblk m c 5 t) (iblk m c 6 t) y) ?_ ?_
  · generalize k0_pay4 (F := Ideal) (iblk m c 0 t) (iblk m c 1 t) (iblk m c 2 t) (iblk m c 3 t) (iblk m c 4 t) = P
    generalize iblk m c 5 t = A
    generalize iblk m c 6 t = B
    canon_tiles x h using (View.cover_of_tiledBy _ ![1, 128, 512] (by sl_kernel_rfl) y)
    all_goals idx_vars x
    · exact (store15_at P _ _ x0 x1 x2).trans (piece_eq P A B y 15 x1 x2 (by show _ = 15; omega) h1 h2
        (fun d => by pointwise []) (fun d => by pointwise []))
    · exact (store14_at P _ _ x0 x1 x2).trans (piece_eq P A B y 14 x1 x2 (by show _ = 14; omega) h1 h2
        (fun d => by pointwise []) (fun d => by pointwise []))
    · exact (store13_at P _ _ x0 x1 x2).trans (piece_eq P A B y 13 x1 x2 (by show _ = 13; omega) h1 h2
        (fun d => by pointwise []) (fun d => by pointwise []))
    · exact (store12_at P _ _ x0 x1 x2).trans (piece_eq P A B y 12 x1 x2 (by show _ = 12; omega) h1 h2
        (fun d => by pointwise []) (fun d => by pointwise []))
    · exact (store11_at P _ _ x0 x1 x2).trans (piece_eq P A B y 11 x1 x2 (by show _ = 11; omega) h1 h2
        (fun d => by pointwise []) (fun d => by pointwise []))
    · exact (store10_at P _ _ x0 x1 x2).trans (piece_eq P A B y 10 x1 x2 (by show _ = 10; omega) h1 h2
        (fun d => by pointwise []) (fun d => by pointwise []))
    · exact (store9_at P _ _ x0 x1 x2).trans (piece_eq P A B y 9 x1 x2 (by show _ = 9; omega) h1 h2
        (fun d => by pointwise []) (fun d => by pointwise []))
    · exact (store8_at P _ _ x0 x1 x2).trans (piece_eq P A B y 8 x1 x2 (by show _ = 8; omega) h1 h2
        (fun d => by pointwise []) (fun d => by pointwise []))
    · exact (store7_at P _ _ x0 x1 x2).trans (piece_eq P A B y 7 x1 x2 (by show _ = 7; omega) h1 h2
        (fun d => by pointwise []) (fun d => by pointwise []))
    · exact (store6_at P _ _ x0 x1 x2).trans (piece_eq P A B y 6 x1 x2 (by show _ = 6; omega) h1 h2
        (fun d => by pointwise []) (fun d => by pointwise []))
    · exact (store5_at P _ _ x0 x1 x2).trans (piece_eq P A B y 5 x1 x2 (by show _ = 5; omega) h1 h2
        (fun d => by pointwise []) (fun d => by pointwise []))
    · exact (store4_at P _ _ x0 x1 x2).trans (piece_eq P A B y 4 x1 x2 (by show _ = 4; omega) h1 h2
        (fun d => by pointwise []) (fun d => by pointwise []))
    · exact (store3_at P _ _ x0 x1 x2).trans (piece_eq P A B y 3 x1 x2 (by show _ = 3; omega) h1 h2
        (fun d => by pointwise []) (fun d => by pointwise []))
    · exact (store2_at P _ _ x0 x1 x2).trans (piece_eq P A B y 2 x1 x2 (by show _ = 2; omega) h1 h2
        (fun d => by pointwise []) (fun d => by pointwise []))
    · exact (store1_at P _ _ x0 x1 x2).trans (piece_eq P A B y 1 x1 x2 (by show _ = 1; omega) h1 h2
        (fun d => by pointwise []) (fun d => by pointwise []))
    · exact (store0_at P _ _ x0 x1 x2).trans (piece_eq P A B y 0 x1 x2 (by show _ = 0; omega) h1 h2
        (fun d => by pointwise []) (fun d => by pointwise []))
  · idx_vars y
    exact (block_eq m c t _ _ _).trans (congrArg (scores (toks m c) (m ((c : Thread nD τ).loc main_arg3))
      (m ((c : Thread nD τ).loc main_arg4))) (emb0_7 t _ _ _)).symm

end Cert.ScoresIdeal.Value

end
-- ==== Proof.RefScores.lean ====
module

public import proofs.«01_k».proof.Proof.Gen.RefScoresIdeal.Read
public import proofs.«01_k».proof.Proof.ScoresFinal

@[expose] public section

set_option maxRecDepth 16384

noncomputable section

namespace Cert.RefScoresIdeal.Value

open Cert.RefScoresIdeal Cert.RefScoresIdeal.Read Idealize.ShloMosaic
open Cert.ProjectionIdeal.Value (xnRow)
open Cert.ScoresIdeal.Value (tokens query key)

variable (x0 : FVec Ideal S8x2048x1024 .f32) (x1 : FVec Ideal S1024 .f32) (x2 : FVec Ideal S8x6144 .f32)
  (x3 : FVec Ideal S1024x2048 .f32) (x4 : FVec Ideal S8x2x128x128 .f32)

theorem norm_at (b : Fin 8) (r : Fin 2048) (j : Fin 1024) :
    val_main_v25 (F := Ideal) x0 x1 x2 (ix3 b r j) = xnRow (fun e => x0 (ix3 b r e)) (fun e => x1 (ix1 e))
      (fun e => x2 (ix2 b ⟨3072 + e, by omega⟩)) (fun e => x2 (ix2 b ⟨4096 + e, by omega⟩)) j := by
  pointwise [val_main_v0, val_main_v4, val_main_v5, val_main_v7, val_main_v8, val_main_v9, val_main_v10, val_main_v11,
    val_main_v12, val_main_v13, val_main_v14, val_main_v15, val_main_v16, val_main_v17, val_main_v18, val_main_v19,
    val_main_v20, val_main_v21, val_main_v22, val_main_v23, val_main_v24, val_main_v25, val_main_cst, val_main_cst_0,
    val_main_cst_1, val_main_cst_2]
  rfl

theorem flat_at (t : Fin 16384) (j : Fin 1024) : val_main_v26 (F := Ideal) x0 x1 x2 (ix2 t j) =
    val_main_v25 (F := Ideal) x0 x1 x2 (ix3 ⟨t / 2048, by omega⟩ ⟨t % 2048, by omega⟩ j) := by
  unfold val_main_v26
  generalize val_main_v25 (F := Ideal) x0 x1 x2 = y
  pointwise []

theorem flat_tokens (t : Fin 16384) (j : Fin 1024) : val_main_v26 (F := Ideal) x0 x1 x2 (ix2 t j) =
    tokens x0 x1 x2 (ix2 j t) :=
  (flat_at x0 x1 x2 t j).trans (norm_at x0 x1 x2 _ _ j)

theorem columns_at (j : Fin 1024) (t : Fin 16384) : val_main_v34 (F := Ideal) x0 x1 x2 (ix2 j t) =
    val_main_v26 (F := Ideal) x0 x1 x2 (ix2 t j) := by
  unfold val_main_v34 val_main_v33
  generalize val_main_v26 (F := Ideal) x0 x1 x2 = y
  pointwise []

/-- The reference's normalised tokens. -/
theorem tokens_eq : val_main_v34 (F := Ideal) x0 x1 x2 = tokens x0 x1 x2 := by
  funext i
  idx_vars i
  exact (columns_at x0 x1 x2 _ _).trans (flat_tokens x0 x1 x2 _ _)

theorem dot_at (t : Fin 16384) (d : Fin 2048) : val_main_v27 (F := Ideal) x0 x1 x2 x3 (ix2 t d) =
    ∑ j : Fin 1024, val_main_v26 (F := Ideal) x0 x1 x2 (ix2 t j) * x3 (ix2 j d) := by
  unfold val_main_v27
  generalize val_main_v26 (F := Ideal) x0 x1 x2 = y
  pointwise []

theorem heads_at (t : Fin 16384) (h : Fin 8) (i : Fin 2) (d : Fin 128) :
    val_main_v28 (F := Ideal) x0 x1 x2 x3 (ix4 t h i d) =
      val_main_v27 (F := Ideal) x0 x1 x2 x3 (ix2 t ⟨(h * 2 + i) * 128 + d, by omega⟩) := by
  unfold val_main_v28
  generalize val_main_v27 (F := Ideal) x0 x1 x2 x3 = y
  pointwise []
  blk_ext []

theorem products_at (h : Fin 8) (i : Fin 2) (k : Fin 128) (t : Fin 16384) :
    val_main_v29 (F := Ideal) x0 x1 x2 x3 x4 (ix4 h i k t) =
      ∑ d : Fin 128, x4 (ix4 h i k d) * val_main_v28 (F := Ideal) x0 x1 x2 x3 (ix4 t h i d) := by
  unfold val_main_v29
  generalize val_main_v28 (F := Ideal) x0 x1 x2 x3 = y
  pointwise []

theorem out_at (p : Fin 16) (k : Fin 128) (t : Fin 16384) :
    val_main_v32 (F := Ideal) x0 x1 x2 x3 x4 (ix3 p k t) =
      val_main_v29 (F := Ideal) x0 x1 x2 x3 x4 (ix4 ⟨p / 2, by omega⟩ ⟨p % 2, by omega⟩ k t) := by
  unfold val_main_v32 val_main_v31 val_main_v30
  generalize val_main_v29 (F := Ideal) x0 x1 x2 x3 x4 = y
  pointwise []

/-- The reference's scores. -/
theorem scores_at (p : Fin 16) (k : Fin 128) (t : Fin 16384) :
    val_main_v32 (F := Ideal) x0 x1 x2 x3 x4 (ix3 p k t) =
      ∑ d : Fin 128, key x4 p k d * query (tokens x0 x1 x2) x3 t p d := by
  refine (out_at x0 x1 x2 x3 x4 p k t).trans ((products_at x0 x1 x2 x3 x4 _ _ k t).trans ?_)
  refine Finset.sum_congr rfl fun d _ => congrArg (key x4 p k d * ·) ?_
  refine (heads_at x0 x1 x2 x3 t _ _ d).trans ((dot_at x0 x1 x2 x3 t _).trans ?_)
  refine Finset.sum_congr rfl fun j _ => congrArg₂ (· * ·) (flat_tokens x0 x1 x2 t j) (congrArg x3 (congrArg (ix2 j) (Fin.ext ?_)))
  show (p.val / 2 * 2 + p.val % 2) * 128 + d.val = p.val * 128 + d.val
  omega

end Cert.RefScoresIdeal.Value

end
-- ==== Proof.ScoresAgree.lean ====
module

public import proofs.«01_k».proof.Proof.RefScores
public import proofs.«01_k».proof.Proof.AttMath

@[expose] public section

set_option maxRecDepth 16384

noncomputable section

namespace Cert.ScoresIdeal.Value

open Cert.ScoresIdeal Idealize.ShloMosaic
open Cert.ProjectionIdeal.Value (xnRow)
open Cert.KernelIdeal.Value (bits_eps sum_coe)

theorem bits_1024 : Ideal.ofBits .f32 0x44800000#32 = ((1024 : ℝ) : EReal) := by
  simp [Ideal.ofBits, Ideal.ieee, -EReal.coe_mul]; norm_num

/-- The modulated norm of a real row is real. -/
theorem xnRow_real (x g a b : Fin 1024 → EReal) (hx : ∀ e, ∃ r : ℝ, x e = r) (hg : ∀ e, ∃ r : ℝ, g e = r)
    (ha : ∀ e, ∃ r : ℝ, a e = r) (hb : ∀ e, ∃ r : ℝ, b e = r) (j : Fin 1024) : ∃ r : ℝ, xnRow x g a b j = r := by
  choose X hX using hx
  choose G hG using hg
  choose A hA using ha
  choose B hB using hb
  obtain ⟨ε, hε, e⟩ := bits_eps
  have hp : 0 < (∑ e, X e * X e) * (1 / 1024) + ε :=
    add_pos_of_nonneg_of_pos (mul_nonneg (Finset.sum_nonneg fun i _ => mul_self_nonneg _) (by norm_num)) hε
  have h1 : ∃ r : ℝ, Ideal.rsqrt (Ideal.div (∑ e, x e * x e) (Ideal.ofBits .f32 0x44800000#32) + Ideal.ofBits .f32 0x358637BD#32) = r := by
    simp only [hX, e, bits_1024, ← EReal.coe_mul, sum_coe]
    rw [Ideal.div_coe (by norm_num), ← EReal.coe_mul, ← EReal.coe_add, Ideal.rsqrt_coe, if_neg hp.not_gt, if_neg hp.ne']
    exact ⟨_, rfl⟩
  obtain ⟨s, hs⟩ := h1
  unfold xnRow
  rw [hs, hX, hG, hA, hB, ← EReal.coe_one, ← EReal.coe_add, ← EReal.coe_mul, ← EReal.coe_mul, ← EReal.coe_mul, ← EReal.coe_add]
  exact ⟨_, rfl⟩

/-- With real queries and keys the low halves are zero, and the product of the high halves is the whole. -/
theorem split_real (q a : Fin 128 → EReal) (hq : ∀ d, ∃ r : ℝ, q d = r) (ha : ∀ d, ∃ r : ℝ, a d = r) :
    split q a (fun d => a d - a d) = ∑ d, a d * q d := by
  choose Q hQ using hq
  choose A hA using ha
  unfold split
  have z1 : ∑ d, (q d - q d) * a d = 0 := Finset.sum_eq_zero fun d _ => by
    rw [hQ, ← EReal.coe_sub, sub_self, EReal.coe_zero, zero_mul]
  have z2 : ∑ d, q d * (a d - a d) = 0 := Finset.sum_eq_zero fun d _ => by
    rw [hA, ← EReal.coe_sub, sub_self, EReal.coe_zero, mul_zero]
  rw [z1, z2, add_zero, add_zero]
  exact Finset.sum_congr rfl fun d _ => mul_comm _ _

variable (x0 : FVec Ideal S8x2048x1024 .f32) (x1 : FVec Ideal S1024 .f32) (x2 : FVec Ideal S8x6144 .f32)
  (x3 : FVec Ideal S1024x2048 .f32) (x4 : FVec Ideal S8x2x128x128 .f32)

theorem query_real (h0 : ∀ i, ∃ r : ℝ, x0 i = r) (h1 : ∀ i, ∃ r : ℝ, x1 i = r) (h2 : ∀ i, ∃ r : ℝ, x2 i = r)
    (h3 : ∀ i, ∃ r : ℝ, x3 i = r) (t : Fin 16384) (p : Fin 16) (d : Fin 128) : ∃ r : ℝ, query (tokens x0 x1 x2) x3 t p d = r := by
  have hn : ∀ j : Fin 1024, ∃ r : ℝ, tokens x0 x1 x2 (ix2 j t) = r := fun j =>
    xnRow_real _ _ _ _ (fun _ => h0 _) (fun _ => h1 _) (fun _ => h2 _) (fun _ => h2 _) j
  choose N hN using hn
  choose W hW using h3
  unfold query
  simp only [hN, hW, ← EReal.coe_mul, sum_coe]
  exact ⟨_, rfl⟩

/-- On finite arguments the kernel's scores are the reference's. -/
theorem scores_agree (h0 : ∀ i, ∃ r : ℝ, x0 i = r) (h1 : ∀ i, ∃ r : ℝ, x1 i = r) (h2 : ∀ i, ∃ r : ℝ, x2 i = r)
    (h3 : ∀ i, ∃ r : ℝ, x3 i = r) (h4 : ∀ i, ∃ r : ℝ, x4 i = r) :
    Cert.RefScoresIdeal.Read.val_main_v32 (F := Ideal) x0 x1 x2 x3 x4 = scores (tokens x0 x1 x2) x3 x4 := by
  funext i
  idx_vars i
  refine (Cert.RefScoresIdeal.Value.scores_at x0 x1 x2 x3 x4 _ _ _).trans ?_
  exact (split_real _ _ (fun d => query_real x0 x1 x2 x3 h0 h1 h2 h3 _ _ d) (fun d => h4 _)).symm

end Cert.ScoresIdeal.Value

end
-- ==== Proof.Algebraic4.lean ====
module

public import proofs.«01_k».proof.Proof.FiniteTokens
public import proofs.«01_k».proof.Proof.ScoresAgree
public import proofs.«01_k».proof.Proof.Gen.RefScoresIdeal
public import proofs.«01_k».proof.Proof.Gen.RefScoresIdeal.Run
public import Idealize.ShloMosaic.Lib.Claim

@[expose] public section

set_option maxRecDepth 16384

noncomputable section

namespace Cert.Proof

open Idealize.ShloMosaic Idealize.SL.Sem

/-- On finite arguments the product-key scores and their reference leave the same arrays. -/
theorem algebraic_scores : Cert.algebraic_ScoresIdeal_RefScoresIdeal_pre_finite_tokens
    (hScoresIdeal := Cert.ScoresIdeal.Gen.facts) (hRefScoresIdeal := Cert.RefScoresIdeal.Gen.facts)
    (hPre_finite_tokens := Cert.Pre_finite_tokens.Gen.facts) := by
  pair_intro
  · run_from Cert.ScoresIdeal.Gen.run_main m g
  · run_from Cert.RefScoresIdeal.Value.run m' g'
    · rw [Cert.RefScoresIdeal.Read.val_main_v32_eq]
      obtain ⟨p0, p1, p2, p3, p4⟩ := hpre c
      exact (Cert.ScoresIdeal.Value.scores_agree _ _ _ _ _ (tokens_real0 _ _ _ _ _ p0) (tokens_real1 _ _ _ _ _ p1)
        (tokens_real2 _ _ _ _ _ p2) (tokens_real3 _ _ _ _ _ p3) (tokens_real4 _ _ _ _ _ p4)).trans
        (Cert.ScoresIdeal.Value.final0_7 m c).symm
    · rw [Cert.RefScoresIdeal.Read.val_main_v34_eq]
      exact (Cert.RefScoresIdeal.Value.tokens_eq _ _ _).trans (Cert.ScoresIdeal.Value.final0_8 m c).symm

end Cert.Proof

end
-- ==== Proof.lean ====
module

public import proofs.«01_k».proof.Defs
public import proofs.«01_k».proof.Proof.Frames
public import proofs.«01_k».proof.Proof.FramesBeside
public import proofs.«01_k».proof.Proof.AlgebraicConv
public import proofs.«01_k».proof.Proof.Gen.ShortConvIdeal.Value
public import proofs.«01_k».proof.Proof.Algebraic23
public import proofs.«01_k».proof.Proof.Gen.ProjectionIdeal.Value
public import proofs.«01_k».proof.Proof.Gen.MergeIdeal.Value
public import proofs.«01_k».proof.Proof.Gen.ScoresIdeal.Value
public import proofs.«01_k».proof.Proof.Algebraic1
public import proofs.«01_k».proof.Proof.Algebraic4

@[expose] public section

noncomputable section

/- The claim: the frames, the idealisations (the programs' own text, so nothing to show) and the value claims. -/

namespace Cert.Proof

open Idealize.ShloMosaic Idealize.SL.Sem

theorem claim : Cert.Claim :=
  ⟨Cert.Kernel.Gen.facts, Cert.KernelIdeal.Gen.facts, Cert.ReferenceIdeal.Gen.facts, Cert.Projection.Gen.facts, Cert.ProjectionIdeal.Gen.facts, Cert.RefProjectionIdeal.Gen.facts, Cert.Merge.Gen.facts, Cert.MergeIdeal.Gen.facts, Cert.RefMergeIdeal.Gen.facts, Cert.Scores.Gen.facts, Cert.ScoresIdeal.Gen.facts, Cert.RefScoresIdeal.Gen.facts, Cert.ShortConv.Gen.facts, Cert.ShortConvIdeal.Gen.facts, Cert.RefShortConvIdeal.Gen.facts, Cert.Pre_finite_inputs.Gen.facts, Cert.Pre_finite_tokens.Gen.facts,
    frame_Kernel,
    frame_KernelIdeal,
    fun m ρ _ => frame_KernelIdeal m ρ trivial,
    frame_ReferenceIdeal,
    fun m ρ _ => frame_ReferenceIdeal m ρ trivial,
    frame_Projection,
    frame_ProjectionIdeal,
    frame_RefProjectionIdeal,
    frame_Merge,
    frame_MergeIdeal,
    frame_RefMergeIdeal,
    frame_Scores,
    frame_ScoresIdeal,
    fun m ρ _ => frame_ScoresIdeal m ρ trivial,
    frame_RefScoresIdeal,
    fun m ρ _ => frame_RefScoresIdeal m ρ trivial,
    frame_ShortConv,
    frame_ShortConvIdeal,
    frame_RefShortConvIdeal,
    trivial,
    algebraic_attention,
    trivial,
    algebraic_projection,
    trivial,
    algebraic_merge,
    trivial,
    algebraic_scores,
    trivial,
    algebraic_short_conv⟩

end Cert.Proof

end
